-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_placed : Cert.Pre_placed.Facts] (m : (ℓ : Loc Cert.Kernel3.nD Cert.Kernel3.τ Cert.Kernel3.sig) → Buf (Elt Bits) ℓ) : Prop :=
  ∀ c : Dev Cert.Kernel3.nD,
    (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).1 = (fun _ => 1#1)
    ∧ (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.1 = (fun _ => 1#1)
    ∧ (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))).2.2 = (fun _ => 1#1)

def Pre_Kernel3Ideal [hPre_placed : Cert.Pre_placed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_placed [hPre_placed : Cert.Pre_placed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] [hPre_placed : Cert.Pre_placed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_placed [hReference3Ideal : Cert.Reference3Ideal.Facts] [hPre_placed : Cert.Pre_placed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_placed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v12_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_placed : Cert.Pre_placed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_placed := hPre_placed)
    ∧ quiescent_Kernel3Ideal (hKernel3Ideal := hKernel3Ideal) (hPre_placed := hPre_placed)
    ∧ quiescent_Reference3Ideal (hReference3Ideal := hReference3Ideal)
    ∧ quiescent_Reference3Ideal_pre_placed (hReference3Ideal := hReference3Ideal) (hPre_placed := hPre_placed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_placed := hPre_placed)
    ∧ preserves_Kernel4_Kernel4Ideal
    ∧ algebraic_Kernel4Ideal_Reference4Ideal (hKernel4Ideal := hKernel4Ideal) (hReference4Ideal := hReference4Ideal)
-- ==== Pre_finite.lean ====
abbrev S32768x6400 : Shape := ⟨2, ![32768, 6400]⟩
abbrev S8x257 : Shape := ⟨2, ![8, 257]⟩
abbrev S32768x1024 : Shape := ⟨2, ![32768, 1024]⟩
abbrev S_ : Shape := ⟨0, ![]⟩

class Facts : Prop where
  slices_S32768x6400_S32768x1024_0_1536 : S32768x6400.Slices ![0, 1536] S32768x1024
  bitsLt_bf16_f32 : FTy.bits .bf16 < FTy.bits .f32
  bcast_S_S32768x1024 : S_.BroadcastsInDim S32768x1024 (![] : Fin 0 → Fin S32768x1024.rank)
  bcast_S_S8x257 : S_.BroadcastsInDim S8x257 (![] : Fin 0 → Fin S8x257.rank)

variable [Facts]

def fn {F : FTy → Type} [FloatOps F] (main_arg0 : FVec F S32768x6400 .bf16) (main_arg1 : FVec F S8x257 .f32) : IVec S32768x1024 1 × IVec S8x257 1 :=
  let main_v0 : FVec F S32768x1024 .bf16 := (extractStridedSlice S32768x1024 ![0, 1536] · slices_S32768x6400_S32768x1024_0_1536) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  (main_v4, main_v7)
-- ==== Pre_placed.lean ====
abbrev S81920x2048 : Shape := ⟨2, ![81920, 2048]⟩
abbrev S1x2048 : Shape := ⟨2, ![1, 2048]⟩
abbrev S160 : Shape := ⟨1, ![160]⟩
abbrev S1 : Shape := ⟨1, ![1]⟩
abbrev S2x32x2048x256 : Shape := ⟨4, ![2, 32, 2048, 256]⟩
abbrev S2x32x256x2048 : Shape := ⟨4, ![2, 32, 256, 2048]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)

variable [Facts]

def fn {F : FTy → Type} [FloatOps F] (main_arg0 : FVec F S81920x2048 .f32) (main_arg1 : FVec F S1x2048 .f32) (main_arg2 : IVec S160 32) (main_arg3 : IVec S1 32) (main_arg4 : FVec F S2x32x2048x256 .f32) (main_arg5 : FVec F S2x32x2048x256 .f32) (main_arg6 : FVec F S2x32x256x2048 .f32) : IVec S160 1 × IVec S160 1 × IVec S1 1 :=
  let main_c : IVec S_ 32 := constantI S_ 32 0#32
  let main_v0 : IVec S160 32 := broadcastInDim S160 ![] bcast_S_S160 main_c
  let main_v1 : IVec S160 1 := cmpi .sge main_arg2 main_v0
  let main_c_0 : IVec S_ 32 := constantI S_ 32 32#32
  let main_v2 : IVec S160 32 := broadcastInDim S160 ![] bcast_S_S160 main_c_0
  let main_v3 : IVec S160 1 := cmpi .slt main_arg2 main_v2
  let main_c_1 : IVec S_ 32 := constantI S_ 32 1#32
  let main_v4 : IVec S1 32 := broadcastInDim S1 ![] bcast_S_S1 main_c_1
  let main_v5 : IVec S1 1 := cmpi .sge main_arg3 main_v4
  (main_v1, main_v3, main_v5)
-- ==== Kernel.lean ====
abbrev S32768x6400 : Shape := ⟨2, ![32768, 6400]⟩
abbrev S8x257 : Shape := ⟨2, ![8, 257]⟩
abbrev S768 : Shape := ⟨1, ![768]⟩
abbrev S_ : Shape := ⟨0, ![]⟩
abbrev S768x1 : Shape := ⟨2, ![768, 1]⟩
abbrev S8x768 : Shape := ⟨2, ![8, 768]⟩
abbrev S1x8x1x768 : Shape := ⟨4, ![1, 8, 1, 768]⟩
abbrev S1x8x640x768 : Shape := ⟨4, ![1, 8, 640, 768]⟩
abbrev S8x491520 : Shape := ⟨2, ![8, 491520]⟩
abbrev S8x490880 : Shape := ⟨2, ![8, 490880]⟩
abbrev S8x640x767 : Shape := ⟨3, ![8, 640, 767]⟩
abbrev S8x640x128 : Shape := ⟨3, ![8, 640, 128]⟩
abbrev S128 : Shape := ⟨1, ![128]⟩
abbrev S1x128 : Shape := ⟨2, ![1, 128]⟩
abbrev S640 : Shape := ⟨1, ![640]⟩
abbrev S640x1 : Shape := ⟨2, ![640, 1]⟩
abbrev S640x128 : Shape := ⟨2, ![640, 128]⟩
abbrev S32768x512 : Shape := ⟨2, ![32768, 512]⟩
abbrev S512x512 : Shape := ⟨2, ![512, 512]⟩
abbrev S8x1024x64 : Shape := ⟨3, ![8, 1024, 64]⟩
abbrev S8x80x1024 : Shape := ⟨3, ![8, 80, 1024]⟩
abbrev S16x1024 : Shape := ⟨2, ![16, 1024]⟩
abbrev S512x64 : Shape := ⟨2, ![512, 64]⟩
abbrev S1x512x64 : Shape := ⟨3, ![1, 512, 64]⟩
abbrev S64x512 : Shape := ⟨2, ![64, 512]⟩
abbrev S1x64x512 : Shape := ⟨3, ![1, 64, 512]⟩
abbrev S1x16x1024 : Shape := ⟨3, ![1, 16, 1024]⟩
abbrev S1x640x64 : Shape := ⟨3, ![1, 640, 64]⟩
abbrev S640x64 : Shape := ⟨2, ![640, 64]⟩
abbrev S128x64 : Shape := ⟨2, ![128, 64]⟩
abbrev S1x640x128 : Shape := ⟨3, ![1, 640, 128]⟩
abbrev S1x80x640 : Shape := ⟨3, ![1, 80, 640]⟩
abbrev S80x640 : Shape := ⟨2, ![80, 640]⟩
abbrev S80x128 : Shape := ⟨2, ![80, 128]⟩
abbrev S64x128 : Shape := ⟨2, ![64, 128]⟩
abbrev S512x128 : Shape := ⟨2, ![512, 128]⟩
abbrev S128x512 : Shape := ⟨2, ![128, 512]⟩

abbrev nBuf : Space → Nat
  | .hbm => 62
  | .vmem => 15
  | .smem => 0
  | _ => 0

abbrev bufTy : (tb : Table) → Fin (tcTables nBuf tb) → BufTy
  | .hbm, ⟨0, _⟩ => ⟨S32768x6400, .bf16⟩
  | .hbm, ⟨1, _⟩ => ⟨S8x257, .f32⟩
  | .hbm, ⟨2, _⟩ => ⟨S768, .i32⟩
  | .hbm, ⟨3, _⟩ => ⟨S_, .i32⟩
  | .hbm, ⟨4, _⟩ => ⟨S768, .i32⟩
  | .hbm, ⟨5, _⟩ => ⟨S768, .i1⟩
  | .hbm, ⟨6, _⟩ => ⟨S_, .i32⟩
  | .hbm, ⟨7, _⟩ => ⟨S768, .i32⟩
  | .hbm, ⟨8, _⟩ => ⟨S768, .i32⟩
  | .hbm, ⟨9, _⟩ => ⟨S768, .i32⟩
  | .hbm, ⟨10, _⟩ => ⟨S_, .i32⟩
  | .hbm, ⟨11, _⟩ => ⟨S768, .i32⟩
  | .hbm, ⟨12, _⟩ => ⟨S768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S768, .i32⟩
  | .hbm, ⟨17, _⟩ => ⟨S768, .i32⟩
  | .hbm, ⟨18, _⟩ => ⟨S_, .i32⟩
  | .hbm, ⟨19, _⟩ => ⟨S768, .i32⟩
  | .hbm, ⟨20, _⟩ => ⟨S768, .i32⟩
  | .hbm, ⟨21, _⟩ => ⟨S_, .i32⟩
  | .hbm, ⟨22, _⟩ => ⟨S768, .i32⟩
  | .hbm, ⟨23, _⟩ => ⟨S768, .i32⟩
  | .hbm, ⟨24, _⟩ => ⟨S_, .i32⟩
  | .hbm, ⟨25, _⟩ => ⟨S768, .i32⟩
  | .hbm, ⟨26, _⟩ => ⟨S768, .i1⟩
  | .hbm, ⟨27, _⟩ => ⟨S_, .i32⟩
  | .hbm, ⟨28, _⟩ => ⟨S768, .i32⟩
  | .hbm, ⟨29, _⟩ => ⟨S768, .i32⟩
  | .hbm, ⟨30, _⟩ => ⟨S768, .i32⟩
  | .hbm, ⟨31, _⟩ => ⟨S768x1, .i32⟩
  | .hbm, ⟨32, _⟩ => ⟨S8x768, .f32⟩
  | .hbm, ⟨33, _⟩ => ⟨S1x8x1x768, .f32⟩
  | .hbm, ⟨34, _⟩ => ⟨S1x8x640x768, .f32⟩
  | .hbm, ⟨35, _⟩ => ⟨S8x491520, .f32⟩
  | .hbm, ⟨36, _⟩ => ⟨S8x490880, .f32⟩
  | .hbm, ⟨37, _⟩ => ⟨S8x640x767, .f32⟩
  | .hbm, ⟨38, _⟩ => ⟨S8x640x128, .f32⟩
  | .hbm, ⟨39, _⟩ => ⟨S128, .i32⟩
  | .hbm, ⟨40, _⟩ => ⟨S1x128, .i32⟩
  | .hbm, ⟨41, _⟩ => ⟨S640, .i32⟩
  | .hbm, ⟨42, _⟩ => ⟨S640x1, .i32⟩
  | .hbm, ⟨43, _⟩ => ⟨S_, .i32⟩
  | .hbm, ⟨44, _⟩ => ⟨S1x128, .i32⟩
  | .hbm, ⟨45, _⟩ => ⟨S1x128, .i1⟩
  | .hbm, ⟨46, _⟩ => ⟨S_, .i32⟩
  | .hbm, ⟨47, _⟩ => ⟨S640x1, .i32⟩
  | .hbm, ⟨48, _⟩ => ⟨S640x1, .i1⟩
  | .hbm, ⟨49, _⟩ => ⟨S_, .i32⟩
  | .hbm, ⟨50, _⟩ => ⟨S640x1, .i32⟩
  | .hbm, ⟨51, _⟩ => ⟨S640x1, .i1⟩
  | .hbm, ⟨52, _⟩ => ⟨S640x128, .i1⟩
  | .hbm, ⟨53, _⟩ => ⟨S640x128, .i1⟩
  | .hbm, ⟨54, _⟩ => ⟨S640x128, .i1⟩
  | .hbm, ⟨55, _⟩ => ⟨S640x128, .i1⟩
  | .hbm, ⟨56, _⟩ => ⟨S_, .f32⟩
  | .hbm, ⟨57, _⟩ => ⟨S_, .f32⟩
  | .hbm, ⟨58, _⟩ => ⟨S8x640x128, .i1⟩
  | .hbm, ⟨59, _⟩ => ⟨S8x640x128, .f32⟩
  | .hbm, ⟨60, _⟩ => ⟨S8x640x128, .f32⟩
  | .hbm, ⟨61, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S8x640x128, .f32⟩
  | .local _ .vmem, ⟨11, _⟩ => ⟨S512x512, .bf16⟩
  | .local _ .vmem, ⟨12, _⟩ => ⟨S512x512, .bf16⟩
  | .local _ .vmem, ⟨13, _⟩ => ⟨S8x1024x64, .bf16⟩
  | .local _ .vmem, ⟨14, _⟩ => ⟨S8x80x1024, .bf16⟩
  | _, _ => ⟨S32768x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v34 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x6400 : Shape := ⟨2, ![32768, 6400]⟩
abbrev S8x257 : Shape := ⟨2, ![8, 257]⟩
abbrev S8x4096x6400 : Shape := ⟨3, ![8, 4096, 6400]⟩
abbrev S8x4096x1536 : Shape := ⟨3, ![8, 4096, 1536]⟩
abbrev S8x4096x512 : Shape := ⟨3, ![8, 4096, 512]⟩
abbrev S8x4096x8x64 : Shape := ⟨4, ![8, 4096, 8, 64]⟩
abbrev S_ : Shape := ⟨0, ![]⟩
abbrev S8x4608x8x64 : Shape := ⟨4, ![8, 4608, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x64x64x8x64 : Shape := ⟨5, ![8, 64, 64, 8, 64]⟩
abbrev S8x64x576x8x64 : Shape := ⟨5, ![8, 64, 576, 8, 64]⟩
abbrev S8x64x8x64x576 : Shape := ⟨5, ![8, 64, 8, 64, 576]⟩
abbrev S1x1x8x64x576 : Shape := ⟨5, ![1, 1, 8, 64, 576]⟩
abbrev S1x64x1x1x576 : Shape := ⟨5, ![1, 64, 1, 1, 576]⟩
abbrev S8x64x8x64 : Shape := ⟨4, ![8, 64, 8, 64]⟩
abbrev S8x64x8x64x1 : Shape := ⟨5, ![8, 64, 8, 64, 1]⟩
abbrev S8x64x8x64x64 : Shape := ⟨5, ![8, 64, 8, 64, 64]⟩
abbrev S32768x512 : Shape := ⟨2, ![32768, 512]⟩

abbrev nBuf : Space → Nat
  | .hbm => 112
  | .vmem => 0
  | .smem => 0
  | _ => 0

abbrev bufTy : (tb : Table) → Fin (tcTables nBuf tb) → BufTy
  | .hbm, ⟨0, _⟩ => ⟨S32768x6400, .bf16⟩
  | .hbm, ⟨1, _⟩ => ⟨S8x257, .f32⟩
  | .hbm, ⟨2, _⟩ => ⟨S32768x6400, .f32⟩
  | .hbm, ⟨3, _⟩ => ⟨S8x4096x6400, .f32⟩
  | .hbm, ⟨4, _⟩ => ⟨S8x4096x1536, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S8x4096x8x64, .f32⟩
  | .hbm, ⟨9, _⟩ => ⟨S8x4096x8x64, .f32⟩
  | .hbm, ⟨10, _⟩ => ⟨S8x4096x8x64, .f32⟩
  | .hbm, ⟨11, _⟩ => ⟨S_, .i32⟩
  | .hbm, ⟨12, _⟩ => ⟨S_, .f32⟩
  | .hbm, ⟨13, _⟩ => ⟨S8x4608x8x64, .f32⟩
  | .hbm, ⟨14, _⟩ => ⟨S_, .i32⟩
  | .hbm, ⟨15, _⟩ => ⟨S_, .f32⟩
  | .hbm, ⟨16, _⟩ => ⟨S8x4608x8x64, .f32⟩
  | .hbm, ⟨17, _⟩ => ⟨S64, .i32⟩
  | .hbm, ⟨18, _⟩ => ⟨S576, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S1x576, .i32⟩
  | .hbm, ⟨24, _⟩ => ⟨S64x576, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S_, .i32⟩
  | .hbm, ⟨39, _⟩ => ⟨S64x576, .i32⟩
  | .hbm, ⟨40, _⟩ => ⟨S64x576, .i1⟩
  | .hbm, ⟨41, _⟩ => ⟨S_, .i32⟩
  | .hbm, ⟨42, _⟩ => ⟨S64x576, .i32⟩
  | .hbm, ⟨43, _⟩ => ⟨S64x576, .i32⟩
  | .hbm, ⟨44, _⟩ => ⟨S64x576, .i32⟩
  | .hbm, ⟨45, _⟩ => ⟨S64x576x1, .i32⟩
  | .hbm, ⟨46, _⟩ => ⟨S8x64x576, .f32⟩
  | .hbm, ⟨47, _⟩ => ⟨S64, .i32⟩
  | .hbm, ⟨48, _⟩ => ⟨S64x1, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S1x576, .i32⟩
  | .hbm, ⟨53, _⟩ => ⟨S64x576, .i32⟩
  | .hbm, ⟨54, _⟩ => ⟨S64x576, .i32⟩
  | .hbm, ⟨55, _⟩ => ⟨S64x576, .i32⟩
  | .hbm, ⟨56, _⟩ => ⟨S8x64x64x8x64, .f32⟩
  | .hbm, ⟨57, _⟩ => ⟨S_, .i32⟩
  | .hbm, ⟨58, _⟩ => ⟨S64x576, .i32⟩
  | .hbm, ⟨59, _⟩ => ⟨S64x576, .i1⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S64x576, .i32⟩
  | .hbm, ⟨64, _⟩ => ⟨S64x576x1, .i32⟩
  | .hbm, ⟨65, _⟩ => ⟨S8x64x576x8x64, .f32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S8x64x576x8x64, .f32⟩
  | .hbm, ⟨75, _⟩ => ⟨S8x64x8x64x576, .f32⟩
  | .hbm, ⟨76, _⟩ => ⟨S_, .f32⟩
  | .hbm, ⟨77, _⟩ => ⟨S8x64x8x64x576, .f32⟩
  | .hbm, ⟨78, _⟩ => ⟨S8x64x8x64x576, .f32⟩
  | .hbm, ⟨79, _⟩ => ⟨S1x1x8x64x576, .f32⟩
  | .hbm, ⟨80, _⟩ => ⟨S8x64x8x64x576, .f32⟩
  | .hbm, ⟨81, _⟩ => ⟨S8x64x8x64x576, .f32⟩
  | .hbm, ⟨82, _⟩ => ⟨S_, .i32⟩
  | .hbm, ⟨83, _⟩ => ⟨S64x576, .i32⟩
  | .hbm, ⟨84, _⟩ => ⟨S64x576, .i32⟩
  | .hbm, ⟨85, _⟩ => ⟨S_, .i32⟩
  | .hbm, ⟨86, _⟩ => ⟨S64x576, .i32⟩
  | .hbm, ⟨87, _⟩ => ⟨S64x576, .i1⟩
  | .hbm, ⟨88, _⟩ => ⟨S1x64x1x1x576, .i1⟩
  | .hbm, ⟨89, _⟩ => ⟨S_, .f32⟩
  | .hbm, ⟨90, _⟩ => ⟨S_, .f32⟩
  | .hbm, ⟨91, _⟩ => ⟨S8x64x8x64x576, .i1⟩
  | .hbm, ⟨92, _⟩ => ⟨S8x64x8x64x576, .f32⟩
  | .hbm, ⟨93, _⟩ => ⟨S8x64x8x64x576, .f32⟩
  | .hbm, ⟨94, _⟩ => ⟨S_, .f32⟩
  | .hbm, ⟨95, _⟩ => ⟨S8x64x8x64, .f32⟩
  | .hbm, ⟨96, _⟩ => ⟨S_, .f32⟩
  | .hbm, ⟨97, _⟩ => ⟨S8x64x8x64, .f32⟩
  | .hbm, ⟨98, _⟩ => ⟨S8x64x8x64, .f32⟩
  | .hbm, ⟨99, _⟩ => ⟨S8x64x8x64x1, .f32⟩
  | .hbm, ⟨100, _⟩ => ⟨S8x64x8x64x576, .f32⟩
  | .hbm, ⟨101, _⟩ => ⟨S8x64x8x64x576, .f32⟩
  | .hbm, ⟨102, _⟩ => ⟨S8x64x8x64x576, .f32⟩
  | .hbm, ⟨103, _⟩ => ⟨S_, .f32⟩
  | .hbm, ⟨104, _⟩ => ⟨S8x64x8x64, .f32⟩
  | .hbm, ⟨105, _⟩ => ⟨S8x64x8x64x1, .f32⟩
  | .hbm, ⟨106, _⟩ => ⟨S8x64x8x64x576, .f32⟩
  | .hbm, ⟨107, _⟩ => ⟨S8x64x8x64x576, .f32⟩
  | .hbm, ⟨108, _⟩ => ⟨S8x64x8x64x64, .f32⟩
  | .hbm, ⟨109, _⟩ => ⟨S8x64x64x8x64, .f32⟩
  | .hbm, ⟨110, _⟩ => ⟨S32768x512, .f32⟩
  | .hbm, ⟨111, _⟩ => ⟨S32768x512, .bf16⟩
  | _, _ => ⟨S32768x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

def κ : String → Option EReal := fun
  | "mask" => some ⊥
  | _ => none
-- ==== Kernel2.lean ====
abbrev S8x4096x2048 : Shape := ⟨3, ![8, 4096, 2048]⟩
abbrev S2048 : Shape := ⟨1, ![2048]⟩
abbrev S2048x6400 : Shape := ⟨2, ![2048, 6400]⟩
abbrev S32768x2048 : Shape := ⟨2, ![32768, 2048]⟩
abbrev S2048x1536 : Shape := ⟨2, ![2048, 1536]⟩
abbrev S2048x4608 : Shape := ⟨2, ![2048, 4608]⟩
abbrev S2048x256 : Shape := ⟨2, ![2048, 256]⟩
abbrev S1x2048 : Shape := ⟨2, ![1, 2048]⟩
abbrev S32768x6400 : Shape := ⟨2, ![32768, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6400, .f32⟩
  | .hbm, ⟨3, _⟩ => ⟨S32768x2048, .f32⟩
  | .hbm, ⟨4, _⟩ => ⟨S2048x1536, .f32⟩
  | .hbm, ⟨5, _⟩ => ⟨S2048x4608, .f32⟩
  | .hbm, ⟨6, _⟩ => ⟨S2048x256, .f32⟩
  | .hbm, ⟨7, _⟩ => ⟨S2048x6400, .f32⟩
  | .hbm, ⟨8, _⟩ => ⟨S2048x6400, .bf16⟩
  | .hbm, ⟨9, _⟩ => ⟨S1x2048, .f32⟩
  | .hbm, ⟨10, _⟩ => ⟨S32768x6400, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .bf16⟩
  | .local _ .vmem, ⟨6, _⟩ => ⟨S1024x1280, .bf16⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x2048 : Shape := ⟨3, ![8, 4096, 2048]⟩
abbrev S2048 : Shape := ⟨1, ![2048]⟩
abbrev S2048x6400 : Shape := ⟨2, ![2048, 6400]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6400 : Shape := ⟨3, ![8, 4096, 6400]⟩
abbrev S8x4096x1536 : Shape := ⟨3, ![8, 4096, 1536]⟩
abbrev S8x4096x4608 : Shape := ⟨3, ![8, 4096, 4608]⟩
abbrev S8x4096x256 : Shape := ⟨3, ![8, 4096, 256]⟩
abbrev S32768x6400 : Shape := ⟨2, ![32768, 6400]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6400, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x6400, .f32⟩
  | .hbm, ⟨20, _⟩ => ⟨S8x4096x1536, .f32⟩
  | .hbm, ⟨21, _⟩ => ⟨S8x4096x4608, .f32⟩
  | .hbm, ⟨22, _⟩ => ⟨S8x4096x256, .f32⟩
  | .hbm, ⟨23, _⟩ => ⟨S8x4096x6400, .f32⟩
  | .hbm, ⟨24, _⟩ => ⟨S32768x6400, .f32⟩
  | .hbm, ⟨25, _⟩ => ⟨S32768x6400, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S81920x2048 : Shape := ⟨2, ![81920, 2048]⟩
abbrev S1x2048 : Shape := ⟨2, ![1, 2048]⟩
abbrev S160 : Shape := ⟨1, ![160]⟩
abbrev S1 : Shape := ⟨1, ![1]⟩
abbrev S2x32x2048x256 : Shape := ⟨4, ![2, 32, 2048, 256]⟩
abbrev S2x32x256x2048 : Shape := ⟨4, ![2, 32, 256, 2048]⟩
abbrev S512x2048 : Shape := ⟨2, ![512, 2048]⟩
abbrev S1x1x2048x256 : Shape := ⟨4, ![1, 1, 2048, 256]⟩
abbrev S1x1x256x2048 : Shape := ⟨4, ![1, 1, 256, 2048]⟩
abbrev S2048x256 : Shape := ⟨2, ![2048, 256]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩

abbrev nBuf : Space → Nat
  | .hbm => 6
  | .vmem => 14
  | .smem => 2
  | _ => 0

abbrev bufTy : (tb : Table) → Fin (tcTables nBuf tb) → BufTy
  | .hbm, ⟨0, _⟩ => ⟨S81920x2048, .f32⟩
  | .hbm, ⟨1, _⟩ => ⟨S1x2048, .f32⟩
  | .hbm, ⟨2, _⟩ => ⟨S2x32x2048x256, .f32⟩
  | .hbm, ⟨3, _⟩ => ⟨S2x32x2048x256, .f32⟩
  | .hbm, ⟨4, _⟩ => ⟨S2x32x256x2048, .f32⟩
  | .hbm, ⟨5, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x2048x256, .f32⟩
  | .local _ .vmem, ⟨7, _⟩ => ⟨S1x1x256x2048, .f32⟩
  | .local _ .vmem, ⟨8, _⟩ => ⟨S1x1x256x2048, .f32⟩
  | .local _ .vmem, ⟨9, _⟩ => ⟨S512x2048, .f32⟩
  | .local _ .vmem, ⟨10, _⟩ => ⟨S512x2048, .f32⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_0 : BitVec 32 := 0#32
  let v5 : BitVec 32 := Scalar.maxsi v4 c0_i32_0
  let v6 : Index := Scalar.indexCast v5
  ![v6.toNat]
def k0_cond2 (i : grid0.Coords) (v0 : BitVec 32) : BitVec 1 :=
  let arg0 : BitVec 32 := BitVec.ofNat 32 (i 0).val
  let v12 : BitVec 1 := Scalar.cmpi .slt arg0 v0
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v15 : BitVec 1 := Scalar.cmpi .sge arg0 v0
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S81920x2048 : Shape := ⟨2, ![81920, 2048]⟩
abbrev S1x2048 : Shape := ⟨2, ![1, 2048]⟩
abbrev S160 : Shape := ⟨1, ![160]⟩
abbrev S1 : Shape := ⟨1, ![1]⟩
abbrev S2x32x2048x256 : Shape := ⟨4, ![2, 32, 2048, 256]⟩
abbrev S2x32x256x2048 : Shape := ⟨4, ![2, 32, 256, 2048]⟩
abbrev S_ : Shape := ⟨0, ![]⟩
abbrev S81920 : Shape := ⟨1, ![81920]⟩
abbrev S81920x1 : Shape := ⟨2, ![81920, 1]⟩
abbrev S160x1 : Shape := ⟨2, ![160, 1]⟩
abbrev S32 : Shape := ⟨1, ![32]⟩
abbrev S1x32 : Shape := ⟨2, ![1, 32]⟩
abbrev S160x32 : Shape := ⟨2, ![160, 32]⟩
abbrev S160x512x32 : Shape := ⟨3, ![160, 512, 32]⟩
abbrev S81920x32 : Shape := ⟨2, ![81920, 32]⟩
abbrev S1x32x2048x256 : Shape := ⟨4, ![1, 32, 2048, 256]⟩
abbrev S32x2048x256 : Shape := ⟨3, ![32, 2048, 256]⟩
abbrev S81920x32x256 : Shape := ⟨3, ![81920, 32, 256]⟩
abbrev S1x32x256x2048 : Shape := ⟨4, ![1, 32, 256, 2048]⟩
abbrev S32x256x2048 : Shape := ⟨3, ![32, 256, 2048]⟩
abbrev S32x2048x81920 : Shape := ⟨3, ![32, 2048, 81920]⟩
abbrev S81920x32x2048 : Shape := ⟨3, ![81920, 32, 2048]⟩
abbrev S81920x32x1 : Shape := ⟨3, ![81920, 32, 1]⟩

abbrev nBuf : Space → Nat
  | .hbm => 62
  | .vmem => 0
  | .smem => 0
  | _ => 0

abbrev bufTy : (tb : Table) → Fin (tcTables nBuf tb) → BufTy
  | .hbm, ⟨0, _⟩ => ⟨S81920x2048, .f32⟩
  | .hbm, ⟨1, _⟩ => ⟨S1x2048, .f32⟩
  | .hbm, ⟨2, _⟩ => ⟨S160, .i32⟩
  | .hbm, ⟨3, _⟩ => ⟨S1, .i32⟩
  | .hbm, ⟨4, _⟩ => ⟨S2x32x2048x256, .f32⟩
  | .hbm, ⟨5, _⟩ => ⟨S2x32x2048x256, .f32⟩
  | .hbm, ⟨6, _⟩ => ⟨S2x32x256x2048, .f32⟩
  | .hbm, ⟨7, _⟩ => ⟨S81920x2048, .f32⟩
  | .hbm, ⟨8, _⟩ => ⟨S_, .f32⟩
  | .hbm, ⟨9, _⟩ => ⟨S81920, .f32⟩
  | .hbm, ⟨10, _⟩ => ⟨S81920x1, .f32⟩
  | .hbm, ⟨11, _⟩ => ⟨S_, .f32⟩
  | .hbm, ⟨12, _⟩ => ⟨S81920x1, .f32⟩
  | .hbm, ⟨13, _⟩ => ⟨S81920x1, .f32⟩
  | .hbm, ⟨14, _⟩ => ⟨S_, .f32⟩
  | .hbm, ⟨15, _⟩ => ⟨S81920x1, .f32⟩
  | .hbm, ⟨16, _⟩ => ⟨S81920x1, .f32⟩
  | .hbm, ⟨17, _⟩ => ⟨S81920x1, .f32⟩
  | .hbm, ⟨18, _⟩ => ⟨S81920x2048, .f32⟩
  | .hbm, ⟨19, _⟩ => ⟨S81920x2048, .f32⟩
  | .hbm, ⟨20, _⟩ => ⟨S81920x2048, .f32⟩
  | .hbm, ⟨21, _⟩ => ⟨S81920x2048, .f32⟩
  | .hbm, ⟨22, _⟩ => ⟨S160, .i32⟩
  | .hbm, ⟨23, _⟩ => ⟨S160, .i32⟩
  | .hbm, ⟨24, _⟩ => ⟨S160, .i1⟩
  | .hbm, ⟨25, _⟩ => ⟨S160x1, .i32⟩
  | .hbm, ⟨26, _⟩ => ⟨S32, .i32⟩
  | .hbm, ⟨27, _⟩ => ⟨S1x32, .i32⟩
  | .hbm, ⟨28, _⟩ => ⟨S160x32, .i32⟩
  | .hbm, ⟨29, _⟩ => ⟨S160x32, .i32⟩
  | .hbm, ⟨30, _⟩ => ⟨S160x32, .i1⟩
  | .hbm, ⟨31, _⟩ => ⟨S160x1, .i1⟩
  | .hbm, ⟨32, _⟩ => ⟨S160x32, .i1⟩
  | .hbm, ⟨33, _⟩ => ⟨S160x32, .i1⟩
  | .hbm, ⟨34, _⟩ => ⟨S160x32, .f32⟩
  | .hbm, ⟨35, _⟩ => ⟨S160x512x32, .f32⟩
  | .hbm, ⟨36, _⟩ => ⟨S81920x32, .f32⟩
  | .hbm, ⟨37, _⟩ => ⟨S1x32x2048x256, .f32⟩
  | .hbm, ⟨38, _⟩ => ⟨S32x2048x256, .f32⟩
  | .hbm, ⟨39, _⟩ => ⟨S81920x32x256, .f32⟩
  | .hbm, ⟨40, _⟩ => ⟨S81920x32x256, .f32⟩
  | .hbm, ⟨41, _⟩ => ⟨S81920x32x256, .f32⟩
  | .hbm, ⟨42, _⟩ => ⟨S_, .f32⟩
  | .hbm, ⟨43, _⟩ => ⟨S81920x32x256, .f32⟩
  | .hbm, ⟨44, _⟩ => ⟨S81920x32x256, .f32⟩
  | .hbm, ⟨45, _⟩ => ⟨S_, .f32⟩
  | .hbm, ⟨46, _⟩ => ⟨S81920x32x256, .f32⟩
  | .hbm, ⟨47, _⟩ => ⟨S81920x32x256, .f32⟩
  | .hbm, ⟨48, _⟩ => ⟨S81920x32x256, .f32⟩
  | .hbm, ⟨49, _⟩ => ⟨S1x32x2048x256, .f32⟩
  | .hbm, ⟨50, _⟩ => ⟨S32x2048x256, .f32⟩
  | .hbm, ⟨51, _⟩ => ⟨S81920x32x256, .f32⟩
  | .hbm, ⟨52, _⟩ => ⟨S81920x32x256, .f32⟩
  | .hbm, ⟨53, _⟩ => ⟨S1x32x256x2048, .f32⟩
  | .hbm, ⟨54, _⟩ => ⟨S32x256x2048, .f32⟩
  | .hbm, ⟨55, _⟩ => ⟨S32x2048x81920, .f32⟩
  | .hbm, ⟨56, _⟩ => ⟨S81920x32x2048, .f32⟩
  | .hbm, ⟨57, _⟩ => ⟨S81920x32x1, .f32⟩
  | .hbm, ⟨58, _⟩ => ⟨S81920x32x2048, .f32⟩
  | .hbm, ⟨59, _⟩ => ⟨S81920x32x2048, .f32⟩
  | .hbm, ⟨60, _⟩ => ⟨S_, .f32⟩
  | .hbm, ⟨61, _⟩ => ⟨S81920x2048, .f32⟩
  | _, _ => ⟨S81920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_2 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel4.lean ====
abbrev S32768x512 : Shape := ⟨2, ![32768, 512]⟩
abbrev S32768x6400 : Shape := ⟨2, ![32768, 6400]⟩
abbrev S8x4096x2048 : Shape := ⟨3, ![8, 4096, 2048]⟩
abbrev S3x512 : Shape := ⟨2, ![3, 512]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32768x2048 : Shape := ⟨2, ![32768, 2048]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S32768x128 : Shape := ⟨2, ![32768, 128]⟩
abbrev S512x512 : Shape := ⟨2, ![512, 512]⟩
abbrev S8x512 : Shape := ⟨2, ![8, 512]⟩
abbrev S512x2048 : Shape := ⟨2, ![512, 2048]⟩
abbrev S512x128 : Shape := ⟨2, ![512, 128]⟩
abbrev S512x1 : Shape := ⟨2, ![512, 1]⟩
abbrev S1x512 : Shape := ⟨2, ![1, 512]⟩
abbrev S512 : Shape := ⟨1, ![512]⟩

abbrev nBuf : Space → Nat
  | .hbm => 30
  | .vmem => 28
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x6400, .bf16⟩
  | .hbm, ⟨4, _⟩ => ⟨S8x4096x2048, .f32⟩
  | .hbm, ⟨5, _⟩ => ⟨S3x512, .f32⟩
  | .hbm, ⟨6, _⟩ => ⟨S2048x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S32768x2048, .f32⟩
  | .hbm, ⟨13, _⟩ => ⟨S2048x36, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S2048x128, .f32⟩
  | .hbm, ⟨19, _⟩ => ⟨S2048x128, .f32⟩
  | .hbm, ⟨20, _⟩ => ⟨S2048x128, .bf16⟩
  | .hbm, ⟨21, _⟩ => ⟨S36, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S2048x2048, .bf16⟩
  | .hbm, ⟨27, _⟩ => ⟨S1x2048, .f32⟩
  | .hbm, ⟨28, _⟩ => ⟨S32768x2048, .f32⟩
  | .hbm, ⟨29, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x512, .bf16⟩
  | .local _ .vmem, ⟨13, _⟩ => ⟨S8x512, .bf16⟩
  | .local _ .vmem, ⟨14, _⟩ => ⟨S8x512, .bf16⟩
  | .local _ .vmem, ⟨15, _⟩ => ⟨S8x512, .bf16⟩
  | .local _ .vmem, ⟨16, _⟩ => ⟨S3x512, .f32⟩
  | .local _ .vmem, ⟨17, _⟩ => ⟨S2048x2048, .bf16⟩
  | .local _ .vmem, ⟨18, _⟩ => ⟨S512x2048, .f32⟩
  | .local _ .vmem, ⟨19, _⟩ => ⟨S512x2048, .f32⟩
  | .local _ .vmem, ⟨20, _⟩ => ⟨S1x2048, .f32⟩
  | .local _ .vmem, ⟨21, _⟩ => ⟨S2048x128, .bf16⟩
  | .local _ .vmem, ⟨22, _⟩ => ⟨S2048x128, .bf16⟩
  | .local _ .vmem, ⟨23, _⟩ => ⟨S1x128, .f32⟩
  | .local _ .vmem, ⟨24, _⟩ => ⟨S512x2048, .f32⟩
  | .local _ .vmem, ⟨25, _⟩ => ⟨S512x2048, .f32⟩
  | .local _ .vmem, ⟨26, _⟩ => ⟨S512x128, .f32⟩
  | .local _ .vmem, ⟨27, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S32768x512 : Shape := ⟨2, ![32768, 512]⟩
abbrev S32768x6400 : Shape := ⟨2, ![32768, 6400]⟩
abbrev S8x4096x2048 : Shape := ⟨3, ![8, 4096, 2048]⟩
abbrev S3x512 : Shape := ⟨2, ![3, 512]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32768x1536 : Shape := ⟨2, ![32768, 1536]⟩
abbrev S8x4096x1536 : Shape := ⟨3, ![8, 4096, 1536]⟩
abbrev S8x4096x512 : Shape := ⟨3, ![8, 4096, 512]⟩
abbrev S_ : Shape := ⟨0, ![]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x6400, .bf16⟩
  | .hbm, ⟨4, _⟩ => ⟨S8x4096x2048, .f32⟩
  | .hbm, ⟨5, _⟩ => ⟨S3x512, .f32⟩
  | .hbm, ⟨6, _⟩ => ⟨S2048x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S32768x1536, .bf16⟩
  | .hbm, ⟨13, _⟩ => ⟨S32768x1536, .f32⟩
  | .hbm, ⟨14, _⟩ => ⟨S8x4096x1536, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S_, .i32⟩
  | .hbm, ⟨20, _⟩ => ⟨S_, .f32⟩
  | .hbm, ⟨21, _⟩ => ⟨S8x4098x512, .f32⟩
  | .hbm, ⟨22, _⟩ => ⟨S1x512, .f32⟩
  | .hbm, ⟨23, _⟩ => ⟨S512, .f32⟩
  | .hbm, ⟨24, _⟩ => ⟨S8x4096x512, .f32⟩
  | .hbm, ⟨25, _⟩ => ⟨S1x1x512, .f32⟩
  | .hbm, ⟨26, _⟩ => ⟨S8x4096x512, .f32⟩
  | .hbm, ⟨27, _⟩ => ⟨S8x4096x512, .f32⟩
  | .hbm, ⟨28, _⟩ => ⟨S1x512, .f32⟩
  | .hbm, ⟨29, _⟩ => ⟨S512, .f32⟩
  | .hbm, ⟨30, _⟩ => ⟨S8x4096x512, .f32⟩
  | .hbm, ⟨31, _⟩ => ⟨S1x1x512, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S1x512, .f32⟩
  | .hbm, ⟨36, _⟩ => ⟨S512, .f32⟩
  | .hbm, ⟨37, _⟩ => ⟨S8x4096x512, .f32⟩
  | .hbm, ⟨38, _⟩ => ⟨S1x1x512, .f32⟩
  | .hbm, ⟨39, _⟩ => ⟨S8x4096x512, .f32⟩
  | .hbm, ⟨40, _⟩ => ⟨S8x4096x512, .f32⟩
  | .hbm, ⟨41, _⟩ => ⟨S8x4096x512, .f32⟩
  | .hbm, ⟨42, _⟩ => ⟨S8x4096x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S32768x2048, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Proof.ExpertsIdealBase.lean ====
/- What the runs of the experts' kernel share: @main up to its pallas_call, the prefetched tables, the windows'
   blocks and staging memrefs, and the body's branch conditions. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 1 (operand 3 (%arg1)) is fetched at the first point only, at any contents of the tables (its index map reads none). -/
theorem fetch0_1 (a : (pcfg0 (F := F)).Adm) : ∀ t : Fin (cfg0 a).N, ((cfg0 a).win 1).fetch t = true ↔ t.val % 160 = 0 :=
  (fun t => Pipeline.Window.fetchOf_const cc0_transform_1 (fun _ _ => rfl) (n := 160) (by decide) t : ∀ t : Fin grid0.N, Pipeline.Window.fetchOf grid0 false cc0_transform_1 t = true ↔ t.val % 160 = 0)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg2
abbrev htbM0_0 : tbM0_0.IsWhole := Memref.isWhole_whole _
abbrev tbM0_1 : Memref sig .tc .smem S1 .i32 := Memref.whole main_arg3
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body, table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c)))⟩) h

/-! ## The body's branch conditions -/

/-- The word the body reads at its first cell of the table of experts: the expert of tile `i`. -/
abbrev teCur (c : Dev nD) (i : grid0.Coords) (xt0 : TbBuf0 (F := F) c tbM0_0) : BitVec 32 :=
  tbM0_0.view.readAt (Elt F) (Rect.unit (s := S160) (k0_off1 i) S1.size (k0_off1_inb i)).toLoadRect xt0 (Shape.Idx.first (numel1_S1.symm ▸ Nat.one_pos))
/-- The word it reads at its second cell: the expert of the tile before (of tile 0 at tile 0). -/
abbrev tePrev (c : Dev nD) (i : grid0.Coords) (xt0 : TbBuf0 (F := F) c tbM0_0) : BitVec 32 :=
  tbM0_0.view.readAt (Elt F) (Rect.unit (s := S160) (k0_off2 i) S1.size (k0_off2_inb i)).toLoadRect xt0 (Shape.Idx.first (numel1_S1.symm ▸ Nat.one_pos))
/-- The number of live tiles. -/
abbrev nLive (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- The body loads the weights at tile `i`: it is the first tile, or its expert `a` is not the one before's, `b`. -/
abbrev Reload (i : grid0.Coords) (a b : BitVec 32) : Prop :=
  (Scalar.cmpi .ne (Scalar.extui (Scalar.ori (Scalar.cmpi .eq (BitVec.ofNat 32 (i 0).val) 0#32) (Scalar.cmpi .ne a b))) 0#32) = 1#1

/-- At the first tile the weights are loaded, whatever the table holds. -/
theorem reload_first (t : Fin grid0.N) (h : t.val = 0) (a b : BitVec 32) : Reload (grid0.coords t) a b := by
  have e0 : (grid0.coords t 0).val = t.val / 1 % 160 := Pipeline.Grid.coords_val t 0 (by decide) rfl
  have e1 : (grid0.coords t 0).val = 0 := by rw [e0, h]
  simp only [Reload, e1]
  generalize Scalar.cmpi .ne a b = d
  revert d
  decide

/-- A truth value widened to a word is not zero just when it is true. -/
theorem word_of_bool (b : Bool) : (Scalar.cmpi .ne (Scalar.extui (BitVec.ofBool b) : BitVec 32) 0#32 = 1#1) ↔ b = true := by
  cases b <;> decide
/-- The second branch is taken just when tile `i` comes before the number of live tiles. -/
theorem live_iff (i : grid0.Coords) (n : BitVec 32) : k0_cond2 i n = 1#1 ↔ (BitVec.ofNat 32 (i 0).val).toInt < n.toInt :=
  (word_of_bool (decide ((BitVec.ofNat 32 (i 0).val).toInt < n.toInt))).trans decide_eq_true_iff
/-- The third branch is taken just when it does not. -/
theorem dead_iff (i : grid0.Coords) (n : BitVec 32) : k0_cond3 i n = 1#1 ↔ n.toInt ≤ (BitVec.ofNat 32 (i 0).val).toInt :=
  (word_of_bool (decide (n.toInt ≤ (BitVec.ofNat 32 (i 0).val).toInt))).trans decide_eq_true_iff
theorem not_dead_of_live (i : grid0.Coords) (n : BitVec 32) (h : k0_cond2 i n = 1#1) : ¬k0_cond3 i n = 1#1 := by
  rw [dead_iff]; rw [live_iff] at h; exact not_le.mpr h
theorem dead_of_not_live (i : grid0.Coords) (n : BitVec 32) (h : ¬k0_cond2 i n = 1#1) : k0_cond3 i n = 1#1 := by
  rw [dead_iff]; rw [live_iff] at h; exact not_lt.mp h

/-! ## The windows' memrefs -/

/-- Each window's current staging memref at point `t`, spelled as the pipeline passes it (`bodyAt0`), and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x2048 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x256 .bf16 := Memref.whole cc0_scratch0
abbrev scM0_1 : Memref sig .tc .vmem S2048x256 .bf16 := Memref.whole cc0_scratch1
abbrev scM0_2 : Memref sig .tc .vmem S256x2048 .bf16 := Memref.whole cc0_scratch2
/-- The scratch `arg9` the kernel carries between points, as a view: what it holds is stated through it. -/
abbrev VS0_0 : View sig .tc .vmem S2048x256 .bf16 := scM0_0.view
/-- The scratch `arg10` the kernel carries between points, as a view: what it holds is stated through it. -/
abbrev VS0_1 : View sig .tc .vmem S2048x256 .bf16 := scM0_1.view
/-- The scratch `arg11` the kernel carries between points, as a view: what it holds is stated through it. -/
abbrev VS0_2 : View sig .tc .vmem S256x2048 .bf16 := scM0_2.view

/-- The frame kit's invariant with the scratch operands as memrefs owned at some contents (`Gen.scopedRest0_eq`,
    `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel3Ideal.Gen

end
-- ==== Proof.ExpertsIdealRun.lean ====
/- The body of the experts' kernel run at a tile: what it leaves in the output's staging memref and in the scratch. -/
module

public import proofs.«01_k».proof.Proof.ExpertsIdealBase
public import Idealize.ShloMosaic.Lib.Pipeline.ValueKit
public import Idealize.ShloMosaic.Lib.VecWindow

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of a whole memref reads what it holds. -/
theorem load_whole {κ : Kind} {sp : Space} {s : Shape} {e : EltTy} {a : Memref sig κ sp s e} (ha : a.IsWhole) (x : Vec F s e)
    {off : Fin s.rank → ℕ} (inb : ∀ k, off k + s.size k ≤ s.size k) (h : ∀ k, off k = 0) :
    View.readAt (Elt F) a.view (Rect.unit off s.size inb).toLoadRect (ha.unread x) = x := by
  rw [View.readAt_eq_ld, ha.read_unread]
  exact View.ld_unit_lit inb x h

/-- The offsets of the kernel's loads are zero. -/
theorem zero2 : ∀ k, (![0, 0] : Fin 2 → ℕ) k = 0 := by decide
theorem zero4 : ∀ k, (![0, 0, 0, 0] : Fin 4 → ℕ) k = 0 := by decide

/-- Equal operands, equal products. -/
theorem pay4_congr {a a' : Vec F S512x2048 .f32} {b b' : Vec F S1x2048 .f32} {s0 s0' s1 s1' : Vec F S2048x256 .bf16} {s2 s2' : Vec F S256x2048 .bf16}
    (h : a = a') (h' : b = b') (h0 : s0 = s0') (h1 : s1 = s1') (h2 : s2 = s2') : k0_pay4 a b s0 s1 s2 = k0_pay4 a' b' s0' s1' s2' := by
  subst h h' h0 h1 h2; rfl

set_option maxHeartbeats 1200000 in
/-- At a tile that loads its weights and is live: the weights are left in the scratch, the rows' product with them in the output. -/
theorem run_reload_live (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x2048 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x2048 .bf16) (harg11 : arg11.IsWhole)
    (x0 : Vec F S512x2048 .f32) (x1 : Vec F S1x2048 .f32) (x2 : Vec F S1x1x2048x256 .f32) (x3 : Vec F S1x1x2048x256 .f32) (x4 : Vec F S1x1x256x2048 .f32) (xt0 : TbBuf0 (F := F) c tbM0_0) (xt1 : TbBuf0 (F := F) c tbM0_1)
    (hr : Reload i (teCur c i xt0) (tePrev c i xt0)) (hl : k0_cond2 i (nLive c xt1) = 1#1) (E : Set ℕ) (K : PUnit → sProp (MT nD τ sig Unit (Elt F) ℕ (UR sig nD τ) ℕ)) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ tbPt0 c tbM0_0 xt0
      ∗ tbPt0 c tbM0_1 xt1
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare (k0_pay4 x0 x1 (k0_pay1 x2) (k0_pay2 x3) (k0_pay3 x4))
        ∗ owns (c : Thread nD τ) arg9 fullShare (k0_pay1 x2)
        ∗ owns (c : Thread nD τ) arg10 fullShare (k0_pay2 x3)
        ∗ owns (c : Thread nD τ) arg11 fullShare (k0_pay3 x4)
        ∗ tbPt0 c tbM0_0 xt0
        ∗ tbPt0 c tbM0_1 xt1) -∗ K ⟨⟩))
    ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10 arg11 harg11) K := by
  have hd : ¬k0_cond3 i (nLive c xt1) = 1#1 := not_dead_of_live i _ hl
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, HT1, Hk⟩
  obtain rfl := harg3.eq_unread hf0
  obtain rfl := harg4.eq_unread hf1
  obtain rfl := harg5.eq_unread hf2
  obtain rfl := harg6.eq_unread hf3
  obtain rfl := harg7.eq_unread hf4
  sl_exec (disch := first | sl_exact hr | sl_exact hl | sl_exact hd)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (View.read_writes_full _ _ _ _ _).trans ?_
    exact pay4_congr (load_whole harg3 _ _ zero2) (load_whole harg4 _ _ zero2) ((View.readAt_writes_full _ _ _ _ _ _).trans (congrArg k0_pay1 (load_whole harg5 _ _ zero4))) ((View.readAt_writes_full _ _ _ _ _ _).trans (congrArg k0_pay2 (load_whole harg6 _ _ zero4))) ((View.readAt_writes_full _ _ _ _ _ _).trans (congrArg k0_pay3 (load_whole harg7 _ _ zero4)))
  isplitl [HS0]
  · iexists _; isplitr
    swap; · iexact HS0
    ipureintro; exact (View.read_writes_full _ _ _ _ _).trans (congrArg k0_pay1 (load_whole harg5 _ _ zero4))
  isplitl [HS1]
  · iexists _; isplitr
    swap; · iexact HS1
    ipureintro; exact (View.read_writes_full _ _ _ _ _).trans (congrArg k0_pay2 (load_whole harg6 _ _ zero4))
  isplitl [HS2]
  · iexists _; isplitr
    swap; · iexact HS2
    ipureintro; exact (View.read_writes_full _ _ _ _ _).trans (congrArg k0_pay3 (load_whole harg7 _ _ zero4))
  isplitl [HT0]; · iexact HT0
  iexact HT1

set_option maxHeartbeats 1200000 in
/-- At a tile that loads its weights and is not live: the weights are left in the scratch, zeros in the output. -/
theorem run_reload_dead (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x2048 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x2048 .bf16) (harg11 : arg11.IsWhole)
    (x0 : Vec F S512x2048 .f32) (x1 : Vec F S1x2048 .f32) (x2 : Vec F S1x1x2048x256 .f32) (x3 : Vec F S1x1x2048x256 .f32) (x4 : Vec F S1x1x256x2048 .f32) (xt0 : TbBuf0 (F := F) c tbM0_0) (xt1 : TbBuf0 (F := F) c tbM0_1)
    (hr : Reload i (teCur c i xt0) (tePrev c i xt0)) (hl : ¬k0_cond2 i (nLive c xt1) = 1#1) (E : Set ℕ) (K : PUnit → sProp (MT nD τ sig Unit (Elt F) ℕ (UR sig nD τ) ℕ)) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ tbPt0 c tbM0_0 xt0
      ∗ tbPt0 c tbM0_1 xt1
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare k0_pay5
        ∗ owns (c : Thread nD τ) arg9 fullShare (k0_pay1 x2)
        ∗ owns (c : Thread nD τ) arg10 fullShare (k0_pay2 x3)
        ∗ owns (c : Thread nD τ) arg11 fullShare (k0_pay3 x4)
        ∗ tbPt0 c tbM0_0 xt0
        ∗ tbPt0 c tbM0_1 xt1) -∗ K ⟨⟩))
    ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10 arg11 harg11) K := by
  have hd : k0_cond3 i (nLive c xt1) = 1#1 := dead_of_not_live i _ hl
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, HT1, Hk⟩
  obtain rfl := harg3.eq_unread hf0
  obtain rfl := harg4.eq_unread hf1
  obtain rfl := harg5.eq_unread hf2
  obtain rfl := harg6.eq_unread hf3
  obtain rfl := harg7.eq_unread hf4
  sl_exec (disch := first | sl_exact hr | sl_exact hl | sl_exact hd)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; exact View.read_writes_full _ _ _ _ _
  isplitl [HS0]
  · iexists _; isplitr
    swap; · iexact HS0
    ipureintro; exact (View.read_writes_full _ _ _ _ _).trans (congrArg k0_pay1 (load_whole harg5 _ _ zero4))
  isplitl [HS1]
  · iexists _; isplitr
    swap; · iexact HS1
    ipureintro; exact (View.read_writes_full _ _ _ _ _).trans (congrArg k0_pay2 (load_whole harg6 _ _ zero4))
  isplitl [HS2]
  · iexists _; isplitr
    swap; · iexact HS2
    ipureintro; exact (View.read_writes_full _ _ _ _ _).trans (congrArg k0_pay3 (load_whole harg7 _ _ zero4))
  isplitl [HT0]; · iexact HT0
  iexact HT1

set_option maxHeartbeats 1200000 in
/-- At a tile that keeps the weights it finds and is live: the rows' product with the found weights is left in the output. -/
theorem run_keep_live (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x2048 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x2048 .bf16) (harg11 : arg11.IsWhole)
    (x0 : Vec F S512x2048 .f32) (x1 : Vec F S1x2048 .f32) (x2 : Vec F S1x1x2048x256 .f32) (x3 : Vec F S1x1x2048x256 .f32) (x4 : Vec F S1x1x256x2048 .f32) (xt0 : TbBuf0 (F := F) c tbM0_0) (xt1 : TbBuf0 (F := F) c tbM0_1) (s0 : Vec F S2048x256 .bf16) (s1 : Vec F S2048x256 .bf16) (s2 : Vec F S256x2048 .bf16)
    (hr : ¬Reload i (teCur c i xt0) (tePrev c i xt0)) (hl : k0_cond2 i (nLive c xt1) = 1#1) (E : Set ℕ) (K : PUnit → sProp (MT nD τ sig Unit (Elt F) ℕ (UR sig nD τ) ℕ)) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ owns (c : Thread nD τ) arg9 fullShare s0
      ∗ owns (c : Thread nD τ) arg10 fullShare s1
      ∗ owns (c : Thread nD τ) arg11 fullShare s2
      ∗ tbPt0 c tbM0_0 xt0
      ∗ tbPt0 c tbM0_1 xt1
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare (k0_pay4 x0 x1 s0 s1 s2)
        ∗ owns (c : Thread nD τ) arg9 fullShare s0
        ∗ owns (c : Thread nD τ) arg10 fullShare s1
        ∗ owns (c : Thread nD τ) arg11 fullShare s2
        ∗ tbPt0 c tbM0_0 xt0
        ∗ tbPt0 c tbM0_1 xt1) -∗ K ⟨⟩))
    ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10 arg11 harg11) K := by
  have hd : ¬k0_cond3 i (nLive c xt1) = 1#1 := not_dead_of_live i _ hl
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, HT0, HT1, Hk⟩
  obtain rfl := harg3.eq_unread hf0
  obtain rfl := harg4.eq_unread hf1
  obtain rfl := harg5.eq_unread hf2
  obtain rfl := harg6.eq_unread hf3
  obtain rfl := harg7.eq_unread hf4
  obtain rfl := harg9.eq_unread hfs0
  obtain rfl := harg10.eq_unread hfs1
  obtain rfl := harg11.eq_unread hfs2
  sl_exec (disch := first | sl_exact hr | sl_exact hl | sl_exact hd)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; refine (View.read_writes_full _ _ _ _ _).trans ?_
    exact pay4_congr (load_whole harg3 _ _ zero2) (load_whole harg4 _ _ zero2) (load_whole harg9 _ _ zero2) (load_whole harg10 _ _ zero2) (load_whole harg11 _ _ zero2)
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HT0]; · iexact HT0
  iexact HT1

set_option maxHeartbeats 1200000 in
/-- At a tile that keeps the weights it finds and is not live: zeros are left in the output. -/
theorem run_keep_dead (c : Dev nD) (i : grid0.Coords) (arg3 : Memref sig .tc .vmem S512x2048 .f32) (harg3 : arg3.IsWhole) (arg4 : Memref sig .tc .vmem S1x2048 .f32) (harg4 : arg4.IsWhole) (arg5 : Memref sig .tc .vmem S1x1x2048x256 .f32) (harg5 : arg5.IsWhole) (arg6 : Memref sig .tc .vmem S1x1x2048x256 .f32) (harg6 : arg6.IsWhole) (arg7 : Memref sig .tc .vmem S1x1x256x2048 .f32) (harg7 : arg7.IsWhole) (arg8 : Memref sig .tc .vmem S512x2048 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x2048 .bf16) (harg11 : arg11.IsWhole)
    (x0 : Vec F S512x2048 .f32) (x1 : Vec F S1x2048 .f32) (x2 : Vec F S1x1x2048x256 .f32) (x3 : Vec F S1x1x2048x256 .f32) (x4 : Vec F S1x1x256x2048 .f32) (xt0 : TbBuf0 (F := F) c tbM0_0) (xt1 : TbBuf0 (F := F) c tbM0_1) (s0 : Vec F S2048x256 .bf16) (s1 : Vec F S2048x256 .bf16) (s2 : Vec F S256x2048 .bf16)
    (hr : ¬Reload i (teCur c i xt0) (tePrev c i xt0)) (hl : ¬k0_cond2 i (nLive c xt1) = 1#1) (E : Set ℕ) (K : PUnit → sProp (MT nD τ sig Unit (Elt F) ℕ (UR sig nD τ) ℕ)) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ owns (c : Thread nD τ) arg9 fullShare s0
      ∗ owns (c : Thread nD τ) arg10 fullShare s1
      ∗ owns (c : Thread nD τ) arg11 fullShare s2
      ∗ tbPt0 c tbM0_0 xt0
      ∗ tbPt0 c tbM0_1 xt1
      ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare k0_pay5
        ∗ owns (c : Thread nD τ) arg9 fullShare s0
        ∗ owns (c : Thread nD τ) arg10 fullShare s1
        ∗ owns (c : Thread nD τ) arg11 fullShare s2
        ∗ tbPt0 c tbM0_0 xt0
        ∗ tbPt0 c tbM0_1 xt1) -∗ K ⟨⟩))
    ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10 arg11 harg11) K := by
  have hd : k0_cond3 i (nLive c xt1) = 1#1 := dead_of_not_live i _ hl
  simp only [cc0_experts_eq_skeleton]; unfold cc0_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, HT0, HT1, Hk⟩
  obtain rfl := harg3.eq_unread hf0
  obtain rfl := harg4.eq_unread hf1
  obtain rfl := harg5.eq_unread hf2
  obtain rfl := harg6.eq_unread hf3
  obtain rfl := harg7.eq_unread hf4
  obtain rfl := harg9.eq_unread hfs0
  obtain rfl := harg10.eq_unread hfs1
  obtain rfl := harg11.eq_unread hfs2
  sl_exec (disch := first | sl_exact hr | sl_exact hl | sl_exact hd)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro; exact View.read_writes_full _ _ _ _ _
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HT0]; · iexact HT0
  iexact HT1

end Cert.Kernel3Ideal.Gen

end
-- ==== Proof.ExpertsIdealFrame.lean ====
/- The experts' kernel run over its tiles: what the scratch and the output hold after each, and the frame. -/
module

public import proofs.«01_k».proof.Proof.ExpertsIdealRun

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the scratch and the output hold after each tile -/

/-- The three weight blocks of tile `t` as the body puts them into the scratch. -/
def loaded (hO : Ok m) (c : Dev nD) (t : Fin (cfgM m hO).N) : Vec F S2048x256 .bf16 × Vec F S2048x256 .bf16 × Vec F S256x2048 .bf16 :=
  (k0_pay1 (iblk m hO c 2 t), k0_pay2 (iblk m hO c 3 t), k0_pay3 (iblk m hO c 4 t))

/-- Tile `t` loads its weights. -/
abbrev reloads (hO : Ok m) (c : Dev nD) (t : Fin (cfgM m hO).N) : Prop := Reload (grid0.coords t) (teCur c (grid0.coords t) (tbl m 0)) (tePrev c (grid0.coords t) (tbl m 0))
/-- Tile `t` is live. -/
abbrev live (hO : Ok m) (c : Dev nD) (t : Fin (cfgM m hO).N) : Prop := k0_cond2 (grid0.coords t) (nLive c (tbl m 1)) = 1#1

/-- What the scratch holds after tile `n`: its weights if it loads them, else what the tile before left. -/
def held (hO : Ok m) (c : Dev nD) : (n : ℕ) → n < (cfgM m hO).N → Vec F S2048x256 .bf16 × Vec F S2048x256 .bf16 × Vec F S256x2048 .bf16
  | 0, hn => loaded m hO c ⟨0, hn⟩
  | n + 1, hn => if reloads m hO c ⟨n + 1, hn⟩ then loaded m hO c ⟨n + 1, hn⟩ else held hO c n (Nat.lt_of_succ_lt hn)

/-- A tile that loads its weights leaves them. -/
theorem held_reload (hO : Ok m) (c : Dev nD) (t : Fin (cfgM m hO).N) (h : reloads m hO c t) : held m hO c t.val t.isLt = loaded m hO c t := by
  obtain ⟨n, hn⟩ := t
  cases n with
  | zero => rfl
  | succ n => exact if_pos h

/-- A tile that does not is not the first, -/
theorem keep_ne_zero (hO : Ok m) (c : Dev nD) (t : Fin (cfgM m hO).N) (h : ¬reloads m hO c t) : t.val ≠ 0 :=
  fun hz => h (reload_first t hz _ _)

/-- and leaves what the tile before left. -/
theorem held_keep (hO : Ok m) (c : Dev nD) (t : Fin (cfgM m hO).N) (h : ¬reloads m hO c t) :
    held m hO c t.val t.isLt = held m hO c (t.val - 1) (lt_of_le_of_lt (Nat.sub_le _ _) t.isLt) := by
  have hz := keep_ne_zero m hO c t h
  obtain ⟨n, hn⟩ := t
  cases n with
  | zero => exact absurd rfl hz
  | succ n => exact if_neg h

/-- What the output's staging memref holds after tile `t`: the rows' product with the held weights if the tile is live, else zeros. -/
def left (hO : Ok m) (c : Dev nD) (t : Fin (cfgM m hO).N) : Vec F S512x2048 .f32 :=
  if live m hO c t then k0_pay4 (iblk m hO c 0 t) (iblk m hO c 1 t) (held m hO c t.val t.isLt).1 (held m hO c t.val t.isLt).2.1 (held m hO c t.val t.isLt).2.2
  else k0_pay5

/-- The scratch at what tile `n` left, the generator register at some state. -/
def scr (hO : Ok m) (c : Dev nD) (n : ℕ) (hn : n < (cfgM m hO).N) : sProp (MT nD τ sig Unit (Elt F) ℕ (UR sig nD τ) ℕ) :=
  iprop((owns (c : Thread nD τ) scM0_0 fullShare (held m hO c n hn).1 ∗ owns (c : Thread nD τ) scM0_1 fullShare (held m hO c n hn).2.1
    ∗ owns (c : Thread nD τ) scM0_2 fullShare (held m hO c n hn).2.2) ∗ (∃ r, prngReg c r))

/-- The region's invariant between tiles: before the first what the launch hands over, after tile `n` the scratch at what it left, and the tables. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(scr m hO c n hn ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After tile `n`. -/
theorem PhiS_succ (hO : Ok m) (c : Dev nD) (n : ℕ) (hn : n < (cfgM m hO).N) :
    PhiS m hO c (n + 1) hn = iprop(scr m hO c n hn ∗ Pipeline.ΦT pre0 (tbl m) c) := rfl

/-- Before a tile that is not the first. -/
theorem PhiS_pos (hO : Ok m) (c : Dev nD) (n : ℕ) (h : n ≤ (cfgM m hO).N) (hz : n ≠ 0) :
    PhiS m hO c n h = iprop(scr m hO c (n - 1) (by omega) ∗ Pipeline.ΦT pre0 (tbl m) c) := by
  cases n with
  | zero => exact absurd rfl hz
  | succ n => rfl

/-- Before any tile the scratch is held at something. -/
theorem PhiS_any (hO : Ok m) (c : Dev nD) (n : ℕ) (h : n ≤ (cfgM m hO).N) :
    PhiS m hO c n h ⊢ iprop(Pipeline.ΦA spec0 c ∗ Pipeline.ΦT pre0 (tbl m) c) := by
  cases n with
  | zero => exact Idealize.SL.BI.Entails.refl _
  | succ n =>
    rw [PhiS_succ, PhiA0_eq]; unfold scr
    iintro ⟨⟨⟨HS0, HS1, HS2⟩, Hg⟩, HT⟩
    isplitl [HS0 HS1 HS2 Hg]
    · isplitl [HS0 HS1 HS2]
      · isplitl [HS0]; · iexists _; iexact HS0
        isplitl [HS1]; · iexists _; iexact HS1
        iexists _; iexact HS2
      iexact Hg
    iexact HT

/-! ## The pipeline's proof data -/

/-- The proof data on core `c`: the arrays as the region finds them; after the body each input's memref at its block and the output's at `left`; the invariant `PhiS`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => left m hO c t
  Φ t := PhiS m hO c t.val (Nat.le_of_lt_succ t.isLt)
  q _ := fullShare
  owed _ := 0

/-- The proof data's arrays are the region's. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = left m hO c t := by dsimp only [dats]; try rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- Weakening the first of two. -/
theorem weaken {A B : sProp (MT nD τ sig Unit (Elt F) ℕ (UR sig nD τ) ℕ)} (h : A ⊢ B) (R : sProp (MT nD τ sig Unit (Elt F) ℕ (UR sig nD τ) ℕ)) : iprop(A ∗ R) ⊢ iprop(B ∗ R) := Idealize.SL.BI.sep_mono h (Idealize.SL.BI.Entails.refl _)

set_option maxHeartbeats 4000000 in
/-- The body at any tile: its inputs' memrefs hold their blocks; the two branches say which of the four runs applies; the scratch is handed over at what the
    tile before left (at anything where the tile loads its weights) and taken back at what this tile leaves. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiS_castSucc m hO c t]
  by_cases hr : reloads m hO c t
  · refine (weaken (PhiS_any m hO c _ _) _).trans ?_
    rw [PhiT0_eq, PhiA0_eq]; unfold scr; rw [held_reload m hO c t hr]; unfold left; rw [held_reload m hO c t hr]
    by_cases hl : live m hO c t
    · rw [if_pos hl]; unfold loaded
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_reload_live c (grid0.coords t) _ _ _ _ _ _ _ _ _ _ _ _ _ _ _ _ _ _ (iblk m hO c 0 t) (iblk m hO c 1 t) (iblk m hO c 2 t) (iblk m hO c 3 t) (iblk m hO c 4 t) (tbl m 0) (tbl m 1) hr hl Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      isplitl [HT1]; · iexact HT1
      iintro ⟨H0, H1, H2, H3, H4, H5, HS0, HS1, HS2, HT0, HT1⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · rw [if_neg hl]; unfold loaded
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_reload_dead c (grid0.coords t) _ _ _ _ _ _ _ _ _ _ _ _ _ _ _ _ _ _ (iblk m hO c 0 t) (iblk m hO c 1 t) (iblk m hO c 2 t) (iblk m hO c 3 t) (iblk m hO c 4 t) (tbl m 0) (tbl m 1) hr hl Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      isplitl [HT1]; · iexact HT1
      iintro ⟨H0, H1, H2, H3, H4, H5, HS0, HS1, HS2, HT0, HT1⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · rw [PhiS_pos m hO c _ _ (keep_ne_zero m hO c t hr), PhiT0_eq]; unfold scr; unfold left; rw [held_keep m hO c t hr]
    by_cases hl : live m hO c t
    · rw [if_pos hl]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_keep_live c (grid0.coords t) _ _ _ _ _ _ _ _ _ _ _ _ _ _ _ _ _ _ (iblk m hO c 0 t) (iblk m hO c 1 t) (iblk m hO c 2 t) (iblk m hO c 3 t) (iblk m hO c 4 t) (tbl m 0) (tbl m 1) _ _ _ hr hl Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      isplitl [HT1]; · iexact HT1
      iintro ⟨H0, H1, H2, H3, H4, H5, HS0, HS1, HS2, HT0, HT1⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
    · rw [if_neg hl]
      iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_keep_dead c (grid0.coords t) _ _ _ _ _ _ _ _ _ _ _ _ _ _ _ _ _ _ (iblk m hO c 0 t) (iblk m hO c 1 t) (iblk m hO c 2 t) (iblk m hO c 3 t) (iblk m hO c 4 t) (tbl m 0) (tbl m 1) _ _ _ hr hl Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      isplitl [HT1]; · iexact HT1
      iintro ⟨H0, H1, H2, H3, H4, H5, HS0, HS1, HS2, HT0, HT1⟩
      isplitl [HS0 HS1 HS2 Hg HT0 HT1]
      · isplitl [HS0 HS1 HS2 Hg]
        · isplitl [HS0 HS1 HS2]
          · isplitl [HS0]; · iexact HS0
            isplitl [HS1]; · iexact HS1
            iexact HS2
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body writes the output at every tile: at a live one in its second branch, at another in its third. -/
theorem never_idle (pf : pre0.Contents (Elt F)) (i : grid0.Coords) : idle0 pf 5 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [dead_of_not_live i _ h]; simp

/-- The library's body obligation, at every point: the body's triple restated. -/
theorem body_obligation (hO : Ok m) (c : Dev nD) : BodyObligation (dats (F := F) m hO 0 c) (defs₀ (F := F)) Variants.none () Set.univ := fun t => by
  rw [bigSep_W0, defs₀_row m hO]
  refine triple_restated (sound_body m hO c t) rfl .rfl fun _ => ?_
  rw [bigSep_W0]; unfold bodyPost
  dsimp only
  rw [never_idle (tbl m)]

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last tile the invariant gives back what the launch handed over. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (le_refl _) from rfl]
  refine (PhiS_any m hO c _ _).trans ?_
  iintro ⟨H, -⟩
  iexact H

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- The frame claim of the program, under the bounds of the tables' contents. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Kernel3Ideal.Gen

end
-- ==== Proof.ExpertsIdealTables.lean ====
/- The experts' kernel: what its two tables say of its windows, and that the windows' blocks are inside their arrays. -/
module

public import proofs.«01_k».proof.Proof.ExpertsIdealFrame
public import Idealize.ShloMosaic.Lib.Pipeline.ReadBack
public import Idealize.ShloMosaic.Lib.StableHlo.ReadAt

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The expert of tile `j`, as the table of experts names it. -/
def te (j : Fin 160) : BitVec 32 := m (((0 : Dev nD) : Thread nD τ).loc main_arg2) (ix1 j)
/-- The number of live tiles, as its table names it. -/
def nl : BitVec 32 := m (((0 : Dev nD) : Thread nD τ).loc main_arg3) (ix1 0)

/-- Every tile names one of the 32 experts, and there is a live tile. -/
def Placed : Prop := (∀ j, 0 ≤ (te m j).toInt ∧ (te m j).toInt < 32) ∧ 1 ≤ (nl m).toInt

theorem tbl_0 (x : S160.Idx) : tbl m 0 x = te m (x 0) := by
  rw [show tbl m 0 = m (((0 : Dev nD) : Thread nD τ).loc main_arg2) from V_main_arg2 m 0]
  exact congrArg (m (((0 : Dev nD) : Thread nD τ).loc main_arg2)) (by funext k; fin_cases k; rfl)
theorem tbl_1 (x : S1.Idx) : tbl m 1 x = nl m := by
  rw [show tbl m 1 = m (((0 : Dev nD) : Thread nD τ).loc main_arg3) from V_main_arg3 m 0]
  exact congrArg (m (((0 : Dev nD) : Thread nD τ).loc main_arg3)) (by funext k; fin_cases k; exact Subsingleton.elim (α := Fin 1) _ _)

theorem word_tile : ∀ n : Fin 160, (Scalar.indexCast (BitVec.ofNat 32 n.val) : Index).toNat = n.val := by decide +kernel
theorem word_before : ∀ n : Fin 160, (Scalar.indexCast (Scalar.maxsi (Scalar.subi (BitVec.ofNat 32 n.val) 1#32) 0#32) : Index).toNat = n.val - 1 := by decide +kernel
theorem word_int : ∀ n : Fin 160, (BitVec.ofNat 32 n.val).toInt = n.val := by decide +kernel
/-- The earlier of a tile and the last live tile. -/
theorem word_min (n : Fin 160) (w : BitVec 32) (h : 1 ≤ w.toInt) : (Scalar.minsi (BitVec.ofNat 32 n.val) (Scalar.subi w 1#32)).toNat = min n.val (w.toNat - 1) := by
  have hn := n.isLt
  have hw : w.toInt = w.toNat := by
    rw [BitVec.toInt_eq_toNat_cond] at h ⊢
    split <;> rename_i h'
    · rfl
    · rw [if_neg h'] at h; have := w.isLt; omega
  have hlt := BitVec.toInt_lt (x := w)
  have hs : (w - 1#32).toNat = w.toNat - 1 := by
    rw [BitVec.toNat_sub]; have := w.isLt; simp; omega
  have hi : (w - 1#32).toInt = (w.toNat - 1 : ℕ) := by
    rw [BitVec.toInt_eq_toNat_cond, hs]; simp at hlt; split <;> omega
  have hm : (BitVec.ofNat 32 n.val).toNat = n.val := by simp; omega
  show (IntOp.minsi (BitVec.ofNat 32 n.val) (w - 1#32)).toNat = _
  unfold IntOp.minsi
  simp only [BitVec.slt, BitVec.sle, word_int, hi, decide_eq_true_eq]
  split <;> simp only [hm, hs] <;> omega

/-- The tile's own cell of the table, and the cell before it. -/
theorem off1_eq (i : grid0.Coords) : k0_off1 i 0 = (i 0).val := word_tile (i 0)
theorem off2_eq (i : grid0.Coords) : k0_off2 i 0 = (i 0).val - 1 := word_before (i 0)

/-- Window 0 stages the tile's rows, those of the last live tile past it. -/
theorem index_0 (h : Placed m) (i : grid0.Coords) : cc0_transform_0 inb_S1_S1_0 numel1_S1 (tbl m) i = ![min (i 0).val ((nl m).toNat - 1), 0] := by
  exact (congrArg (fun z : BitVec 32 => ![(Scalar.minsi (BitVec.ofNat 32 (i 0).val) (Scalar.subi z 1#32)).toNat, 0]) (tbl_1 m _)).trans
    (congrArg (fun z => ![z, 0]) (word_min (i 0) (nl m) h.2))

theorem entry_te (i : grid0.Coords) (h1 : S1.numel = 1) (hin : ∀ a, (![(Scalar.indexCast (BitVec.ofNat 32 (i 0).val) : Index).toNat] : Fin 1 → ℕ) a + S1.size a ≤ S160.size a) :
    tbl m 0 ((Rect.unit (s := S160) ![(Scalar.indexCast (BitVec.ofNat 32 (i 0).val) : Index).toNat] S1.size hin).emb (Shape.Idx.first (h1.symm ▸ Nat.one_pos))) = te m (i 0) := by
  rw [tbl_0]
  refine congrArg (te m) (Fin.ext ?_)
  have := word_tile (i 0)
  simp [Rect.emb, Rect.unit, Shape.Idx.first]
  exact this

/-- Windows 2, 3 and 4 stage the weights of the tile's expert. -/
theorem index_2 (i : grid0.Coords) : cc0_transform_2 k0_off1_inb numel1_S1 (tbl m) i = ![0, (te m (i 0)).toNat, 0, 0] := by
  exact congrArg (fun z : BitVec 32 => ![0, z.toNat, 0, 0]) (entry_te m i numel1_S1 (k0_off1_inb i))
theorem index_3 (i : grid0.Coords) : cc0_transform_3 k0_off1_inb numel1_S1 (tbl m) i = ![0, (te m (i 0)).toNat, 0, 0] := by
  exact congrArg (fun z : BitVec 32 => ![0, z.toNat, 0, 0]) (entry_te m i numel1_S1 (k0_off1_inb i))
theorem index_4 (i : grid0.Coords) : cc0_transform_4 k0_off1_inb numel1_S1 (tbl m) i = ![0, (te m (i 0)).toNat, 0, 0] := by
  exact congrArg (fun z : BitVec 32 => ![0, z.toNat, 0, 0]) (entry_te m i numel1_S1 (k0_off1_inb i))

/-- An expert's number, read without sign. -/
theorem te_lt (h : Placed m) (j : Fin 160) : (te m j).toNat < 32 ∧ (te m j).toInt = (te m j).toNat := by
  have h' := h.1 j
  have := (te m j).isLt
  rw [BitVec.toInt_eq_toNat_cond] at h' ⊢
  split at h' <;> constructor <;> first | omega | (split <;> omega)

/-- The windows' blocks are inside their arrays. -/
theorem ok_of_placed (h : Placed m) : Ok m := by
  have bound (j : Fin 160) := (te_lt m h j).1
  refine ⟨fun i => ⟨fun a => ?_, .inl rfl⟩, fun i => ⟨fun a => ?_, .inl rfl⟩, fun i => ⟨fun a => ?_, .inl rfl⟩, fun i => ⟨fun a => ?_, .inl rfl⟩⟩
  · rw [index_0 m h]
    have hi : (i 0).val < 160 := (i 0).isLt
    fin_cases a
    · show (min (i 0).val ((nl m).toNat - 1) + 1) * 512 ≤ 81920; omega
    · show (0 + 1) * 2048 ≤ 2048; omega
  · rw [index_2]; have := bound (i 0)
    fin_cases a
    · show (0 + 1) * 1 ≤ 2; omega
    · show ((te m (i 0)).toNat + 1) * 1 ≤ 32; omega
    · show (0 + 1) * 2048 ≤ 2048; omega
    · show (0 + 1) * 256 ≤ 256; omega
  · rw [index_3]; have := bound (i 0)
    fin_cases a
    · show (0 + 1) * 1 ≤ 2; omega
    · show ((te m (i 0)).toNat + 1) * 1 ≤ 32; omega
    · show (0 + 1) * 2048 ≤ 2048; omega
    · show (0 + 1) * 256 ≤ 256; omega
  · rw [index_4]; have := bound (i 0)
    fin_cases a
    · show (0 + 1) * 1 ≤ 2; omega
    · show ((te m (i 0)).toNat + 1) * 1 ≤ 32; omega
    · show (0 + 1) * 256 ≤ 256; omega
    · show (0 + 1) * 2048 ≤ 2048; omega

/-- The words the body reads: the tile's expert, the expert of the tile before, the number of live tiles. -/
theorem teCur_eq (c : Dev nD) (i : grid0.Coords) : teCur c i (tbl m 0) = te m (i 0) := entry_te m i numel1_S1 (k0_off1_inb i)
theorem tePrev_eq (c : Dev nD) (i : grid0.Coords) (j : Fin 160) (hj : j.val = (i 0).val - 1) : tePrev c i (tbl m 0) = te m j := by
  show tbl m 0 ((Rect.unit (s := S160) (k0_off2 i) S1.size (k0_off2_inb i)).emb (Shape.Idx.first (numel1_S1.symm ▸ Nat.one_pos))) = te m j
  rw [tbl_0]
  refine congrArg (te m) (Fin.ext ?_)
  have := off2_eq i
  simp [Rect.emb, Rect.unit, Shape.Idx.first]
  exact this.trans hj.symm
theorem nLive_eq (c : Dev nD) : nLive c (tbl m 1) = nl m := tbl_1 m _

/-- A tile that keeps the weights it finds has the expert of the tile before. -/
theorem same_of_keep (i : grid0.Coords) (a b : BitVec 32) (h : ¬Reload i a b) : a = b := by
  by_contra hne
  refine h ?_
  have e : Scalar.cmpi .ne a b = 1#1 := by
    show BitVec.ofBool (a != b) = 1#1
    rw [bne_iff_ne.mpr hne]; rfl
  show Scalar.cmpi .ne (Scalar.extui (Scalar.ori (Scalar.cmpi .eq (BitVec.ofNat 32 (i 0).val) 0#32) (Scalar.cmpi .ne a b))) 0#32 = 1#1
  rw [e]
  generalize Scalar.cmpi .eq (BitVec.ofNat 32 (i 0).val) 0#32 = d
  revert d
  decide

/-- A tile's coordinate is its number. -/
theorem coord (t : Fin grid0.N) : (grid0.coords t 0).val = t.val := by
  have e0 : (grid0.coords t 0).val = t.val / 1 % 160 := Pipeline.Grid.coords_val t 0 (by decide) rfl
  have : t.val < 160 := lt_of_lt_of_eq t.isLt N_0
  omega

/-- A tile is live just when it comes before the number of live tiles. -/
theorem live_iff_lt (h : Placed m) (hO : Ok m) (c : Dev nD) (t : Fin (cfgM m hO).N) : live m hO c t ↔ t.val < (nl m).toNat := by
  unfold live
  rw [live_iff, nLive_eq, show (BitVec.ofNat 32 (grid0.coords t 0).val).toInt = (grid0.coords t 0).val from word_int (grid0.coords t 0), coord]
  have h2 := h.2
  have := (nl m).isLt
  rw [BitVec.toInt_eq_toNat_cond] at h2 ⊢
  split at h2 <;> omega

/-- The expert of tile `t`. -/
def expert (h : Placed m) (t : Fin 160) : Fin 32 := ⟨(te m t).toNat, (te_lt m h t).1⟩

end Cert.Kernel3Ideal.Gen

end
-- ==== Proof.Linear.lean ====
module

public import Idealize.ShloMosaic.Lib.Pointwise
public import Idealize.ShloMosaic.PureOps.Ideal

@[expose] public section

noncomputable section

namespace Cert.Linear

open Idealize.ShloMosaic

/-- One entry of the root mean square normalisation of the row `u` with gain `g`. -/
def rms (u g : Fin 2048 → EReal) (k : Fin 2048) : EReal :=
  u k * Ideal.rsqrt (Ideal.div (∑ j, u j * u j) (Ideal.ofBits .f32 0x45000000#32) + Ideal.ofBits .f32 0x358637BD#32) * g k

/-- The column of the weights behind column `e` of the packed projection: the columns of the linear recurrence stay, the gating
    columns go to the end. -/
def source (e : Fin 6400) : Fin 6400 :=
  if h : e.val < 1536 then e else if h' : e.val < 6144 then ⟨e.val + 256, by omega⟩ else ⟨e.val - 4608, by omega⟩

/-- Entry `(r, e)` of the normalised and packed projection. -/
def project (x : Fin 32768 → Fin 2048 → EReal) (g : Fin 2048 → EReal) (w : Fin 2048 → Fin 6400 → EReal) (r : Fin 32768) (e : Fin 6400) : EReal :=
  ∑ k, rms (x r) g k * w k (source e)

/-- The sigmoid linear unit. -/
def silu (x : EReal) : EReal := x * Ideal.div 1 (1 + Ideal.exp (-x))

/-- Entry `d` of one expert's answer to the row `u`: the normalised row through the expert's gate and up weights, their product through its
    down weights. -/
def ffn (u g : Fin 2048 → EReal) (wg wu : Fin 2048 → Fin 256 → EReal) (wd : Fin 256 → Fin 2048 → EReal) (d : Fin 2048) : EReal :=
  ∑ h, silu (∑ k, rms u g k * wg k h) * (∑ k, rms u g k * wu k h) * wd h d

end Cert.Linear

end
-- ==== Proof.ExpertsIdealBlock.lean ====
module

public import proofs.«01_k».proof.Proof.ExpertsIdealTables
public import proofs.«01_k».proof.Proof.Linear
public import Idealize.ShloMosaic.Lib.Pipeline.ValueKit
public import Idealize.ShloMosaic.Lib.Pipeline.ReadBack

/-!
The values the experts' kernel computes from one tile, entry by entry.
-/

@[expose] public section

set_option maxRecDepth 16384

noncomputable section

namespace Cert.Kernel3Ideal.Experts

open Cert.Kernel3Ideal Cert.Kernel3Ideal.Gen Idealize.ShloMosaic Idealize.ShloMosaic.TcCoe Idealize.SL.Sem Cert.Linear

/-- The weights put into the scratch are the staged ones. -/
theorem gate_at (w : Vec Ideal S1x1x2048x256 .f32) (k : Fin 2048) (h : Fin 256) :
    (k0_pay1 (F := Ideal) w (ix2 k h) : EReal) = w (ix4 0 0 k h) := by
  pointwise [k0_pay1]
theorem up_at (w : Vec Ideal S1x1x2048x256 .f32) (k : Fin 2048) (h : Fin 256) :
    (k0_pay2 (F := Ideal) w (ix2 k h) : EReal) = w (ix4 0 0 k h) := by
  pointwise [k0_pay2]
theorem down_at (w : Vec Ideal S1x1x256x2048 .f32) (h : Fin 256) (d : Fin 2048) :
    (k0_pay3 (F := Ideal) w (ix2 h d) : EReal) = w (ix4 0 0 h d) := by
  pointwise [k0_pay3]

/-- The zeros of a tile that is not live. -/
theorem zeros_at (r : Fin 512) (d : Fin 2048) : (k0_pay5 (F := Ideal) (ix2 r d) : EReal) = 0 := by
  pointwise [k0_pay5]

/-- The product block, entry by entry. -/
theorem block_at (x : Vec Ideal S512x2048 .f32) (g : Vec Ideal S1x2048 .f32) (wg wu : Vec Ideal S2048x256 .bf16) (wd : Vec Ideal S256x2048 .bf16) (r : Fin 512) (d : Fin 2048) :
    (k0_pay4 (F := Ideal) x g wg wu wd (ix2 r d) : EReal)
      = ffn (fun j => x (ix2 r j)) (fun j => g (ix2 0 j)) (fun k h => wg (ix2 k h)) (fun k h => wu (ix2 k h)) (fun h d => wd (ix2 h d)) d := by
  pointwise [k0_pay4, ffn, rms, silu]
  simp only [zero_sub]

end Cert.Kernel3Ideal.Experts

end
-- ==== Proof.ExpertsIdealValue.lean ====
module

public import proofs.«01_k».proof.Proof.ExpertsIdealBlock
public import Idealize.ShloMosaic.Lib.StableHlo.ReadAt

/-!
The value of the experts' kernel: every row of the sorted rows goes through the expert of its tile, the rows past the live tiles are zero.
-/

@[expose] public section

set_option maxRecDepth 16384

noncomputable section

namespace Cert.Kernel3Ideal.Experts

open Cert.Kernel3Ideal Cert.Kernel3Ideal.Gen Idealize.ShloMosaic Idealize.ShloMosaic.TcCoe Idealize.SL.Sem Cert.Linear

variable (m : (ℓ : Loc nD τ sig) → Buf (Elt Ideal) ℓ)

/-- The sorted rows, the gain of the normalisation, and the first layer's weights of expert `E`. -/
def X (c : Dev nD) : Fin 81920 → Fin 2048 → EReal := fun r j => m ((c.tc : Thread nD τ).loc main_arg0) (ix2 r j)
def G (c : Dev nD) : Fin 2048 → EReal := fun j => m ((c.tc : Thread nD τ).loc main_arg1) (ix2 0 j)
def Wg (c : Dev nD) (E : Fin 32) : Fin 2048 → Fin 256 → EReal := fun k h => m ((c.tc : Thread nD τ).loc main_arg4) (ix4 0 E k h)
def Wu (c : Dev nD) (E : Fin 32) : Fin 2048 → Fin 256 → EReal := fun k h => m ((c.tc : Thread nD τ).loc main_arg5) (ix4 0 E k h)
def Wd (c : Dev nD) (E : Fin 32) : Fin 256 → Fin 2048 → EReal := fun h d => m ((c.tc : Thread nD τ).loc main_arg6) (ix4 0 E h d)

/-- The tile's number among the 160. -/
def tile {hO : Ok m} (t : Fin (cfgM m hO).N) : Fin 160 := ⟨t.val, lt_of_lt_of_eq t.isLt N_0⟩

theorem coord_tile {hO : Ok m} (t : Fin (cfgM m hO).N) : (grid0.coords t 0 : Fin 160) = tile m t := Fin.ext (coord t)

/-- Which block of its array each window stages at each tile. -/
theorem idx0 (h : Placed m) (hO : Ok m) (t : Fin (cfgM m hO).N) : ((cfgM m hO).win 0).index t = ![min t.val ((nl m).toNat - 1), 0] := by
  have e := index_0 m h (grid0.coords t)
  rw [coord] at e
  exact e
theorem idx1 (hO : Ok m) (t : Fin (cfgM m hO).N) : ((cfgM m hO).win 1).index t = ![0, 0] := rfl
theorem idx2 (h : Placed m) (hO : Ok m) (t : Fin (cfgM m hO).N) : ((cfgM m hO).win 2).index t = ![0, (expert m h (tile m t)).val, 0, 0] := by
  have e := index_2 m (grid0.coords t)
  rw [coord_tile] at e
  exact e
theorem idx3 (h : Placed m) (hO : Ok m) (t : Fin (cfgM m hO).N) : ((cfgM m hO).win 3).index t = ![0, (expert m h (tile m t)).val, 0, 0] := by
  have e := index_3 m (grid0.coords t)
  rw [coord_tile] at e
  exact e
theorem idx4 (h : Placed m) (hO : Ok m) (t : Fin (cfgM m hO).N) : ((cfgM m hO).win 4).index t = ![0, (expert m h (tile m t)).val, 0, 0] := by
  have e := index_4 m (grid0.coords t)
  rw [coord_tile] at e
  exact e
theorem idx5 (hO : Ok m) (t : Fin (cfgM m hO).N) : ((cfgM m hO).win 5).index t = ![t.val, 0] := by
  have e : (BitVec.ofNat 32 (grid0.coords t 0).val).toNat = t.val := (word_tile (grid0.coords t 0)).trans (coord t)
  exact congrArg (fun z => ![z, 0]) e

/-- Window 0 stages a live tile's rows. -/
theorem staged0 (h : Placed m) (hO : Ok m) (c : Dev nD) (t : Fin (cfgM m hO).N) (hl : t.val < (nl m).toNat) (r : Fin 512) (j : Fin 2048) (R : Fin 81920) (hR : R.val = t.val * 512 + r.val) :
    @Eq EReal (iblk m hO c 0 t (ix2 r j)) (X m c R j) := by
  have ht : t.val < 160 := (tile m t).isLt
  have hm : min t.val ((nl m).toNat - 1) = t.val := by omega
  refine Eq.trans ?_ (congrFun (V_main_arg0 m c) (ix2 R j))
  blk_ext [iblk, idx0 m h hO t, hm]

/-- Window 1 stages the gain. -/
theorem staged1 (hO : Ok m) (c : Dev nD) (t : Fin (cfgM m hO).N) (j : Fin 2048) : @Eq EReal (iblk m hO c 1 t (ix2 0 j)) (G m c j) := by
  refine Eq.trans ?_ (congrFun (V_main_arg1 m c) (ix2 0 j))
  blk_ext [iblk, idx1 m hO t]

/-- Windows 2, 3 and 4 stage the weights of the tile's expert. -/
theorem staged2 (h : Placed m) (hO : Ok m) (c : Dev nD) (t : Fin (cfgM m hO).N) (k : Fin 2048) (e : Fin 256) :
    @Eq EReal (iblk m hO c 2 t (ix4 0 0 k e)) (Wg m c (expert m h (tile m t)) k e) := by
  refine Eq.trans ?_ (congrFun (V_main_arg4 m c) (ix4 0 (expert m h (tile m t)) k e))
  blk_ext [iblk, idx2 m h hO t]
theorem staged3 (h : Placed m) (hO : Ok m) (c : Dev nD) (t : Fin (cfgM m hO).N) (k : Fin 2048) (e : Fin 256) :
    @Eq EReal (iblk m hO c 3 t (ix4 0 0 k e)) (Wu m c (expert m h (tile m t)) k e) := by
  refine Eq.trans ?_ (congrFun (V_main_arg5 m c) (ix4 0 (expert m h (tile m t)) k e))
  blk_ext [iblk, idx3 m h hO t]
theorem staged4 (h : Placed m) (hO : Ok m) (c : Dev nD) (t : Fin (cfgM m hO).N) (e : Fin 256) (d : Fin 2048) :
    @Eq EReal (iblk m hO c 4 t (ix4 0 0 e d)) (Wd m c (expert m h (tile m t)) e d) := by
  refine Eq.trans ?_ (congrFun (V_main_arg6 m c) (ix4 0 (expert m h (tile m t)) e d))
  blk_ext [iblk, idx4 m h hO t]

/-- The scratch holds the weights of expert `E`. -/
def Holds (c : Dev nD) (E : Fin 32) (s : Vec Ideal S2048x256 .bf16 × Vec Ideal S2048x256 .bf16 × Vec Ideal S256x2048 .bf16) : Prop :=
  (∀ k e, @Eq EReal (s.1 (ix2 k e)) (Wg m c E k e)) ∧ (∀ k e, @Eq EReal (s.2.1 (ix2 k e)) (Wu m c E k e)) ∧ ∀ e d, @Eq EReal (s.2.2 (ix2 e d)) (Wd m c E e d)

/-- Loading the staged weights of expert `E` leaves them. -/
theorem holds_of (c : Dev nD) (E : Fin 32) (x y : Vec Ideal S1x1x2048x256 .f32) (z : Vec Ideal S1x1x256x2048 .f32)
    (hx : ∀ k e, @Eq EReal (x (ix4 0 0 k e)) (Wg m c E k e)) (hy : ∀ k e, @Eq EReal (y (ix4 0 0 k e)) (Wu m c E k e))
    (hz : ∀ e d, @Eq EReal (z (ix4 0 0 e d)) (Wd m c E e d)) : Holds m c E (k0_pay1 x, k0_pay2 y, k0_pay3 z) :=
  ⟨fun k e => (gate_at x k e).trans (hx k e), fun k e => (up_at y k e).trans (hy k e), fun e d => (down_at z e d).trans (hz e d)⟩

/-- A tile that loads its weights leaves its expert's. -/
theorem loaded_holds (h : Placed m) (hO : Ok m) (c : Dev nD) (t : Fin (cfgM m hO).N) : Holds m c (expert m h (tile m t)) (loaded m hO c t) := by
  unfold loaded
  exact holds_of m c _ _ _ _ (staged2 m h hO c t) (staged3 m h hO c t) (staged4 m h hO c t)

/-- After every tile the scratch holds the weights of the tile's expert: a tile that keeps what it finds has the expert of the tile before. -/
theorem held_holds (h : Placed m) (hO : Ok m) (c : Dev nD) : ∀ (n : ℕ) (hn : n < (cfgM m hO).N), Holds m c (expert m h (tile m ⟨n, hn⟩)) (held m hO c n hn) := by
  intro n
  induction n with
  | zero => exact fun hn => loaded_holds m h hO c ⟨0, hn⟩
  | succ n ih =>
    intro hn
    by_cases hr : reloads m hO c ⟨n + 1, hn⟩
    · rw [held_reload m hO c ⟨n + 1, hn⟩ hr]
      exact loaded_holds m h hO c ⟨n + 1, hn⟩
    · rw [held_keep m hO c ⟨n + 1, hn⟩ hr]
      have e := same_of_keep _ _ _ hr
      rw [teCur_eq, tePrev_eq m c _ (tile m ⟨n, Nat.lt_of_succ_lt hn⟩) (by rw [coord]; rfl), coord_tile] at e
      have e' : expert m h (tile m ⟨n + 1, hn⟩) = expert m h (tile m ⟨n, Nat.lt_of_succ_lt hn⟩) := Fin.ext (show (te m (tile m ⟨n + 1, hn⟩)).toNat = (te m (tile m ⟨n, Nat.lt_of_succ_lt hn⟩)).toNat by rw [e])
      rw [e']
      exact ih (Nat.lt_of_succ_lt hn)

/-- The product block of a row and an expert's weights. -/
theorem block_of (c : Dev nD) (E : Fin 32) (x : Vec Ideal S512x2048 .f32) (g : Vec Ideal S1x2048 .f32) (wg wu : Vec Ideal S2048x256 .bf16) (wd : Vec Ideal S256x2048 .bf16)
    (R : Fin 81920) (r : Fin 512) (d : Fin 2048) (hx : ∀ j, @Eq EReal (x (ix2 r j)) (X m c R j)) (hg : ∀ j, @Eq EReal (g (ix2 0 j)) (G m c j))
    (h1 : ∀ k e, @Eq EReal (wg (ix2 k e)) (Wg m c E k e)) (h2 : ∀ k e, @Eq EReal (wu (ix2 k e)) (Wu m c E k e)) (h3 : ∀ e d, @Eq EReal (wd (ix2 e d)) (Wd m c E e d)) :
    @Eq EReal (k0_pay4 (F := Ideal) x g wg wu wd (ix2 r d)) (ffn (X m c R) (G m c) (Wg m c E) (Wu m c E) (Wd m c E) d) := by
  refine (block_at x g wg wu wd r d).trans ?_
  rw [← show (fun j => (x (ix2 r j) : EReal)) = X m c R from funext hx, ← show (fun j => (g (ix2 0 j) : EReal)) = G m c from funext hg,
    ← show (fun k e => (wg (ix2 k e) : EReal)) = Wg m c E from funext fun k => funext (h1 k),
    ← show (fun k e => (wu (ix2 k e) : EReal)) = Wu m c E from funext fun k => funext (h2 k),
    ← show (fun e d => (wd (ix2 e d) : EReal)) = Wd m c E from funext fun e => funext (h3 e)]

/-- Entry `(R, d)` of the answer: row `R` through the expert of its tile if the tile is live, else zero. -/
def answer (h : Placed m) (c : Dev nD) (R : Fin 81920) (d : Fin 2048) : EReal :=
  if R.val / 512 < (nl m).toNat then
    ffn (X m c R) (G m c) (Wg m c (expert m h ⟨R.val / 512, by omega⟩)) (Wu m c (expert m h ⟨R.val / 512, by omega⟩)) (Wd m c (expert m h ⟨R.val / 512, by omega⟩)) d
  else 0

/-- The block each tile leaves. -/
theorem left_at (h : Placed m) (hO : Ok m) (c : Dev nD) (t : Fin (cfgM m hO).N) (r : Fin 512) (d : Fin 2048) (R : Fin 81920) (hR : R.val = t.val * 512 + r.val) :
    @Eq EReal (left m hO c t (ix2 r d)) (answer m h c R d) := by
  have hr := r.isLt
  have hq : R.val / 512 = t.val := by omega
  have ht : (⟨R.val / 512, by omega⟩ : Fin 160) = tile m t := Fin.ext hq
  unfold left answer
  rw [ht, hq]
  by_cases hl : live m hO c t
  · have hl' := (live_iff_lt m h hO c t).mp hl
    rw [if_pos hl, if_pos hl']
    obtain ⟨e1, e2, e3⟩ := held_holds m h hO c t.val t.isLt
    exact block_of m c _ _ _ _ _ _ R r d (fun j => staged0 m h hO c t hl' r j R hR) (fun j => staged1 m hO c t j) e1 e2 e3
  · rw [if_neg hl, if_neg fun hl' => hl ((live_iff_lt m h hO c t).mpr hl')]
    exact zeros_at r d

/-- The blocks the tiles write back are all of the array. -/
theorem covered (hO : Ok m) : ((cfgM m hO).win 5).Covers := by
  refine ⟨fun a => ?_, fun β => ?_⟩
  · fin_cases a
    · show 0 < 512; omega
    · show 0 < 2048; omega
  have h0 : (β (0 : Fin 2)).val < 160 := lt_of_lt_of_eq (β (0 : Fin 2)).isLt (show (81920 + 512 - 1) / 512 = 160 by decide)
  have h1 : (β (1 : Fin 2)).val < 1 := lt_of_lt_of_eq (β (1 : Fin 2)).isLt (show (2048 + 2048 - 1) / 2048 = 1 by decide)
  refine ⟨⟨(β (0 : Fin 2)).val, lt_of_lt_of_eq h0 N_0.symm⟩, flush0_5 _ _, fun a => ?_⟩
  rw [idx5]
  fin_cases a
  · exact ⟨rfl, .inl rfl⟩
  · exact ⟨(Nat.lt_one_iff.mp h1).symm, .inl rfl⟩

/-- The array the kernel leaves is the answer. -/
theorem final (h : Placed m) (hO : Ok m) (c : Dev nD) :
    (dats m hO 0 c).arrAt 5 (cfgM m hO).N = (fun i => answer m h c (i 0) (i 1) : FVec Ideal S81920x2048 .f32) := by
  refine (dats m hO 0 c).arrAt_eq_of_covers 5 _ (covered m hO) fun t _ (y : S512x2048.Idx) => ?_
  have e0 : (((((cfgM m hO).win 5).blk t).view.emb y (0 : Fin 2) : Fin _) : ℕ) = t.val * 512 + (y 0).val := by blk_simp [idx5 m hO t]
  have e1 : (((((cfgM m hO).win 5).blk t).view.emb y (1 : Fin 2) : Fin _) : ℕ) = (y 1).val := by blk_simp [idx5 m hO t]
  have hb :=  left_at m h hO c t (y 0) (y 1) _ e0
  have hd : ((((cfgM m hO).win 5).blk t).view.emb y (1 : Fin 2) : Fin 2048) = y 1 := Fin.ext e1
  have hy : (y : S512x2048.Idx) = ix2 (y 0) (y 1) := by funext k; fin_cases k <;> rfl
  rw [hd]
  rw [hy]
  refine Eq.trans ?_ hb
  exact congrFun (after0_5 m hO c t) _

end Cert.Kernel3Ideal.Experts

end
-- ==== Proof.ExpertsReference.lean ====
module

public import proofs.«01_k».proof.Proof.Gen.Reference3Ideal.Run
public import proofs.«01_k».proof.Proof.Linear

/-!
The experts' reference, entry by entry.
-/

@[expose] public section

set_option maxRecDepth 16384

noncomputable section

namespace Cert.Reference3Ideal.Experts

open Cert.Reference3Ideal Cert.Reference3Ideal.Gen Idealize.ShloMosaic Idealize.ShloMosaic.TcCoe Idealize.SL.Sem Cert.Linear

/-- The rows after the root mean square normalisation. -/
def normed (X : FVec Ideal S81920x2048 .f32) (G : FVec Ideal S1x2048 .f32) : FVec Ideal S81920x2048 .f32 :=
  mulf (mulf X (broadcastInDim S81920x2048 ![0, 1] bcast_S81920x1_S81920x2048_0_1 (Host.rsqrt (addf (Host.divf (broadcastInDim S81920x1 ![0] bcast_S81920_S81920x1_0 (Host.reduceAdd (mulf X X) (constant S_ .f32 0x00000000#32) reducesTo_S81920x2048_S81920_d1 h_S_)) (broadcastInDim S81920x1 ![] bcast_S_S81920x1 (constant S_ .f32 0x45000000#32))) (broadcastInDim S81920x1 ![] bcast_S_S81920x1 (constant S_ .f32 0x358637BD#32)))))) (broadcastInDim S81920x2048 ![0, 1] bcast_S1x2048_S81920x2048_0_1 G)

/-- Every row times a weight of every expert. -/
def wide (X : FVec Ideal S81920x2048 .f32) (G : FVec Ideal S1x2048 .f32) (W : FVec Ideal S2x32x2048x256 .f32) : FVec Ideal S81920x32x256 .f32 :=
  Host.dotGeneral dot_S81920x2048_S32x2048x256_S81920x32x256_1_1_0_02_n_n none (normed X G) (shapeCast _ (extractStridedSlice S1x32x2048x256 ![0, 0, 0, 0] W slices_S2x32x2048x256_S1x32x2048x256_0_0_0_0) shapeCasts_S1x32x2048x256_S32x2048x256)

/-- The gated hidden rows. -/
def hidden (A B : FVec Ideal S81920x32x256 .f32) : FVec Ideal S81920x32x256 .f32 :=
  mulf (mulf A (Host.divf (broadcastInDim S81920x32x256 ![] bcast_S_S81920x32x256 (constant S_ .f32 0x3F800000#32)) (addf (broadcastInDim S81920x32x256 ![] bcast_S_S81920x32x256 (constant S_ .f32 0x3F800000#32)) (Host.exp (Host.negf A))))) B

/-- Every row through every expert. -/
def outs (H : FVec Ideal S81920x32x256 .f32) (W : FVec Ideal S2x32x256x2048 .f32) : FVec Ideal S81920x32x2048 .f32 :=
  transpose S81920x32x2048 [2, 0, 1] (Host.dotGeneral dot_S32x256x2048_S81920x32x256_S32x2048x81920_1_2_2_0_0_1 none (shapeCast _ (extractStridedSlice S1x32x256x2048 ![0, 0, 0, 0] W slices_S2x32x256x2048_S1x32x256x2048_0_0_0_0) shapeCasts_S1x32x256x2048_S32x256x2048) H) transposes_S32x2048x81920_S81920x32x2048_2_0_1

/-- Which expert each tile belongs to, as bits, none past the live tiles. -/
def bits (T : IVec S160 32) (n : IVec S1 32) : IVec S160x32 1 :=
  andi (cmpi .eq (broadcastInDim S160x32 ![0, 1] bcast_S160x1_S160x32_0_1 (broadcastInDim S160x1 ![0] bcast_S160_S160x1_0 T)) (broadcastInDim S160x32 ![0, 1] bcast_S1x32_S160x32_0_1 (broadcastInDim S1x32 ![1] bcast_S32_S1x32_1 (iotaInDim S32 32 0)))) (broadcastInDim S160x32 ![0, 1] bcast_S160x1_S160x32_0_1 (broadcastInDim S160x1 ![0] bcast_S160_S160x1_0 (cmpi .slt (iotaInDim S160 32 0) (broadcastInDim S160 ![0] bcast_S1_S160_0 n))))

/-- The same of every row, as numbers. -/
def picks (b : IVec S160x32 1) : FVec Ideal S81920x32 .f32 :=
  shapeCast _ (broadcastInDim S160x512x32 ![0, 2] bcast_S160x32_S160x512x32_0_2 (uitofp .f32 b)) shapeCasts_S160x512x32_S81920x32

/-- The sum over the experts. -/
def total (P : FVec Ideal S81920x32 .f32) (O : FVec Ideal S81920x32x2048 .f32) : FVec Ideal S81920x2048 .f32 :=
  Host.reduceAdd (mulf (broadcastInDim S81920x32x2048 ![0, 1, 2] bcast_S81920x32x1_S81920x32x2048_0_1_2 (broadcastInDim S81920x32x1 ![0, 1] bcast_S81920x32_S81920x32x1_0_1 P)) O) (constant S_ .f32 0x00000000#32) reducesTo_S81920x32x2048_S81920x2048_d1 h_S_

/-- The reference's result. -/
def result (X : FVec Ideal S81920x2048 .f32) (G : FVec Ideal S1x2048 .f32) (T : IVec S160 32) (n : IVec S1 32) (Wg Wu : FVec Ideal S2x32x2048x256 .f32) (Wd : FVec Ideal S2x32x256x2048 .f32) : FVec Ideal S81920x2048 .f32 :=
  total (picks (bits T n)) (outs (hidden (wide X G Wg) (wide X G Wu)) Wd)

/-- What the reference leaves is `result` of its arguments. -/
theorem res_eq (m : (ℓ : Loc nD τ sig) → Buf (Elt Ideal) ℓ) (c : Dev nD) :
    Cert.Reference3Ideal.Value.res_out0 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem normed_at (X : FVec Ideal S81920x2048 .f32) (G : FVec Ideal S1x2048 .f32) (R : Fin 81920) (k : Fin 2048) :
    (normed X G (ix2 R k) : EReal) = rms (fun j => X (ix2 R j)) (fun j => G (ix2 0 j)) k := by
  unfold rms
  pointwise [normed]

theorem wide_at (X : FVec Ideal S81920x2048 .f32) (G : FVec Ideal S1x2048 .f32) (W : FVec Ideal S2x32x2048x256 .f32) (R : Fin 81920) (E : Fin 32) (e : Fin 256) :
    (wide X G W (ix3 R E e) : EReal) = ∑ k : Fin 2048, rms (fun j => X (ix2 R j)) (fun j => G (ix2 0 j)) k * W (ix4 0 E k e) := by
  have h : (wide X G W (ix3 R E e) : EReal) = ∑ k : Fin 2048, normed X G (ix2 R k) * W (ix4 0 E k e) := by
    pointwise [wide]
  rw [h]
  exact Finset.sum_congr rfl fun k _ => by rw [normed_at]

theorem hidden_at (A B : FVec Ideal S81920x32x256 .f32) (R : Fin 81920) (E : Fin 32) (e : Fin 256) :
    (hidden A B (ix3 R E e) : EReal) = silu (A (ix3 R E e)) * B (ix3 R E e) := by
  unfold silu
  pointwise [hidden]

theorem outs_at (H : FVec Ideal S81920x32x256 .f32) (W : FVec Ideal S2x32x256x2048 .f32) (R : Fin 81920) (E : Fin 32) (d : Fin 2048) :
    (outs H W (ix3 R E d) : EReal) = ∑ e : Fin 256, H (ix3 R E e) * W (ix4 0 E e d) := by
  have h : (outs H W (ix3 R E d) : EReal) = ∑ e : Fin 256, W (ix4 0 E e d) * H (ix3 R E e) := by
    pointwise [outs]
  rw [h]
  exact Finset.sum_congr rfl fun e _ => mul_comm (G := EReal) _ _

theorem picks_at (b : IVec S160x32 1) (R : Fin 81920) (E : Fin 32) :
    (picks b (ix2 R E) : EReal) = (((b (ix2 (⟨R.val / 512, by omega⟩ : Fin 160) E)).toNat : ℝ) : EReal) := by
  pointwise [picks]
  rfl

theorem bits_at (T : IVec S160 32) (n : IVec S1 32) (t : Fin 160) (E : Fin 32) :
    bits T n (ix2 t E) = IntOp.andi (IntOp.cmpi .eq (T (ix1 t)) (BitVec.ofNat 32 E.val)) (IntOp.cmpi .slt (BitVec.ofNat 32 t.val) (n (ix1 0))) := by
  pointwise [bits]

theorem total_at (P : FVec Ideal S81920x32 .f32) (O : FVec Ideal S81920x32x2048 .f32) (R : Fin 81920) (d : Fin 2048) :
    (total P O (ix2 R d) : EReal) = ∑ E : Fin 32, P (ix2 R E) * O (ix3 R E d) := by
  pointwise [total]

/-- The bit of tile `t` and expert `E`, as a number: one where the tile names `E` and comes before the number of live tiles. -/
theorem pick (T n : BitVec 32) (t : Fin 160) (E : Fin 32) (hT : T.toNat < 32) (hn : 1 ≤ n.toInt) :
    (((IntOp.andi (IntOp.cmpi .eq T (BitVec.ofNat 32 E.val)) (IntOp.cmpi .slt (BitVec.ofNat 32 t.val) n)).toNat : ℝ) : EReal)
      = if t.val < n.toNat ∧ E = ⟨T.toNat, hT⟩ then 1 else 0 := by
  have hE := E.isLt
  have ht := t.isLt
  have e1 : IntOp.cmpi .eq T (BitVec.ofNat 32 E.val) = BitVec.ofBool (decide (E = ⟨T.toNat, hT⟩)) := by
    show BitVec.ofBool (T == BitVec.ofNat 32 E.val) = _
    congr 1
    rw [Bool.eq_iff_iff, beq_iff_eq, decide_eq_true_eq]
    constructor
    · intro e
      refine Fin.ext ?_
      have := congrArg BitVec.toNat e
      rw [BitVec.toNat_ofNat, Nat.mod_eq_of_lt (by omega)] at this
      exact this.symm
    · intro e
      refine BitVec.eq_of_toNat_eq ?_
      rw [BitVec.toNat_ofNat, Nat.mod_eq_of_lt (by omega), e]
  have e2 : IntOp.cmpi .slt (BitVec.ofNat 32 t.val) n = BitVec.ofBool (decide (t.val < n.toNat)) := by
    show BitVec.ofBool (BitVec.slt (BitVec.ofNat 32 t.val) n) = _
    congr 1
    rw [Bool.eq_iff_iff, BitVec.slt_iff_toInt_lt, decide_eq_true_eq]
    have ht' : (BitVec.ofNat 32 t.val).toInt = t.val := by
      rw [BitVec.toInt_eq_toNat_cond, BitVec.toNat_ofNat, Nat.mod_eq_of_lt (by omega), if_pos (by omega)]
    have hn' := BitVec.toInt_eq_toNat_cond n
    have := n.isLt
    split at hn' <;> omega
  rw [e1, e2]
  by_cases hb : E = ⟨T.toNat, hT⟩ <;> by_cases ha : t.val < n.toNat <;> simp [ha, hb, IntOp.andi]

/-- One entry of the reference's result. -/
theorem result_at (X : FVec Ideal S81920x2048 .f32) (G : FVec Ideal S1x2048 .f32) (T : IVec S160 32) (n : IVec S1 32) (Wg Wu : FVec Ideal S2x32x2048x256 .f32) (Wd : FVec Ideal S2x32x256x2048 .f32)
    (R : Fin 81920) (d : Fin 2048) (E : Fin 32) (hE : (T (ix1 (⟨R.val / 512, by omega⟩ : Fin 160))).toNat = E.val) (hn : 1 ≤ (n (ix1 0)).toInt) :
    (result X G T n Wg Wu Wd (ix2 R d) : EReal) = if R.val / 512 < (n (ix1 0)).toNat then
      ffn (fun j => X (ix2 R j)) (fun j => G (ix2 0 j)) (fun k e => Wg (ix4 0 E k e)) (fun k e => Wu (ix4 0 E k e)) (fun e d => Wd (ix4 0 E e d)) d else 0 := by
  have hT : (T (ix1 (⟨R.val / 512, by omega⟩ : Fin 160))).toNat < 32 := hE ▸ E.isLt
  have hE' : (⟨(T (ix1 (⟨R.val / 512, by omega⟩ : Fin 160))).toNat, hT⟩ : Fin 32) = E := Fin.ext hE
  have step (E' : Fin 32) : (picks (bits T n) (ix2 R E') : EReal) = if R.val / 512 < (n (ix1 0)).toNat ∧ E' = E then 1 else 0 := by
    rw [picks_at, bits_at, pick _ _ _ _ hT hn, hE']
  have out : (outs (hidden (wide X G Wg) (wide X G Wu)) Wd (ix3 R E d) : EReal) = ffn (fun j => X (ix2 R j)) (fun j => G (ix2 0 j)) (fun k e => Wg (ix4 0 E k e)) (fun k e => Wu (ix4 0 E k e)) (fun e d => Wd (ix4 0 E e d)) d := by
    rw [outs_at]
    unfold ffn
    exact Finset.sum_congr rfl fun e _ => by rw [hidden_at, wide_at, wide_at]
  refine (total_at _ _ R d).trans ?_
  rw [Finset.sum_eq_single (M := EReal) E (fun E' _ hne => by rw [step, if_neg (fun h => hne h.2)]; exact zero_mul (M₀ := EReal) _) (fun h => absurd (Finset.mem_univ _) h), step, out]
  by_cases hl : R.val / 512 < (n (ix1 0)).toNat
  · rw [if_pos hl, if_pos ⟨hl, rfl⟩]; exact one_mul (M := EReal) _
  · rw [if_neg hl, if_neg fun h => hl h.1]; exact zero_mul (M₀ := EReal) _

end Cert.Reference3Ideal.Experts

end
-- ==== Proof.OutprojBlock.lean ====
module

public import proofs.«01_k».proof.Proof.Gen.Kernel4Ideal.Value
public import proofs.«01_k».proof.Proof.Linear
public import Idealize.ShloMosaic.Lib.Pipeline.ValueKit
public import Idealize.ShloMosaic.Lib.Pipeline.ReadBack

/-!
The values the output projection's kernel computes from one tile, entry by entry.
-/

@[expose] public section

set_option maxRecDepth 16384

noncomputable section

namespace Cert.Kernel4Ideal.Outproj

open Cert.Kernel4Ideal Cert.Kernel4Ideal.Gen Idealize.ShloMosaic Idealize.ShloMosaic.TcCoe Idealize.SL.Sem Cert.Linear

theorem gated_at (a b : Vec Ideal S512x512 .bf16) (r : Fin 512) (e : Fin 512) :
    (k0_pay2 (F := Ideal) a b (ix2 r e) : EReal) = a (ix2 r e) * b (ix2 r e) := by
  pointwise [k0_pay2]

theorem dots_at (x y z : Vec Ideal S512x512 .bf16) (u v w : Vec Ideal S512x2048 .bf16) (r : Fin 512) (d : Fin 2048) :
    (k0_pay10 (F := Ideal) x u y v z w (ix2 r d) : EReal) = (∑ k : Fin 512, x (ix2 r k) * u (ix2 k d)) + (∑ k : Fin 512, y (ix2 r k) * v (ix2 k d)) + ∑ k : Fin 512, z (ix2 r k) * w (ix2 k d) := by
  pointwise [k0_pay10]

theorem sum_at (c : FVec Ideal S512x512 .f32) (a : FVec Ideal S512x2048 .f32) (w : Vec Ideal S512x2048 .bf16) (x : Vec Ideal S512x2048 .f32) (r : Fin 512) (d : Fin 2048) :
    (k0_pay11 (F := Ideal) c a w x (ix2 r d) : EReal) = x (ix2 r d) + (a (ix2 r d) + ∑ k : Fin 512, c (ix2 r k) * w (ix2 k d)) := by
  pointwise [k0_pay11]

theorem first_tile : ∀ n : Fin 64, Scalar.cmpi CmpIPredicate.eq
        (Scalar.select
          (Scalar.andi
            (Scalar.xori
              (Scalar.cmpi CmpIPredicate.slt
                (Scalar.remsi (BitVec.ofNat 32 n.val)
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 n.val) (Scalar.select (Scalar.cmpi CmpIPredicate.eq 8#32 0#32) 1#32 8#32))
              0#32))
          (Scalar.addi
            (Scalar.remsi (BitVec.ofNat 32 n.val) (Scalar.select (Scalar.cmpi CmpIPredicate.eq 8#32 0#32) 1#32 8#32))
            (Scalar.select (Scalar.cmpi CmpIPredicate.eq 8#32 0#32) 1#32 8#32))
          (Scalar.remsi (BitVec.ofNat 32 n.val) (Scalar.select (Scalar.cmpi CmpIPredicate.eq 8#32 0#32) 1#32 8#32)))
        0#32 = if n.val % 8 = 0 then 1#1 else 0#1 := by decide +kernel

theorem row_zero : ∀ r : Fin 512, IntOp.cmpi CmpIPredicate.eq (BitVec.ofNat 32 r.val) 0#32 = if r.val = 0 then 1#1 else 0#1 := by decide +kernel

theorem row_one : ∀ r : Fin 512, IntOp.cmpi CmpIPredicate.eq (BitVec.ofNat 32 r.val) 1#32 = if r.val = 1 then 1#1 else 0#1 := by decide +kernel

theorem select_ite (p : Prop) [Decidable p] (a b : EReal) : Scalar.select (if p then 1#1 else 0#1) a b = if p then a else b := by
  by_cases h : p
  · rw [if_pos h, if_pos h]; rfl
  · rw [if_neg h, if_neg h]; rfl

/-- The gated rows just before the tile: zero where a sequence begins. -/
theorem before_at (i : grid0.Coords) (a b : Vec Ideal S8x512 .bf16) (r : Fin 8) (e : Fin 512) :
    (k0_pay3 (F := Ideal) i a b (ix2 r e) : EReal) = if (i 0).val % 8 = 0 then 0 else a (ix2 r e) * b (ix2 r e) := by
  pointwise [k0_pay3]
  have h := first_tile (i 0)
  rw [h]
  exact select_ite _ _ _

/-- The gated values `n` rows up from row `r` of a tile: from the rows before the tile where `r < n`. -/
def back (i : ℕ) (a b : Vec Ideal S512x512 .bf16) (p q : Vec Ideal S8x512 .bf16) (n : ℕ) (hn : n ≤ 8) (r : Fin 512) (e : Fin 512) : EReal :=
  if h : r.val < n then (if i % 8 = 0 then 0 else p (ix2 ⟨8 + r.val - n, by omega⟩ e) * q (ix2 ⟨8 + r.val - n, by omega⟩ e))
  else a (ix2 ⟨r.val - n, by omega⟩ e) * b (ix2 ⟨r.val - n, by omega⟩ e)

theorem one_at (i : grid0.Coords) (a b : Vec Ideal S512x512 .bf16) (p q : Vec Ideal S8x512 .bf16) (r : Fin 512) (e : Fin 512) :
    (k0_pay4 (F := Ideal) i a b p q (ix2 r e) : EReal) = back (i 0).val a b p q 1 (by decide) r e := by
  pointwise [k0_pay4]
  rw [row_zero r]
  refine (select_ite _ _ _).trans ?_
  unfold back
  by_cases h : r.val = 0
  · rw [if_pos h, dif_pos (by omega : r.val < 1)]
    refine (before_at i p q 7 e).trans ?_
    have e7 : (⟨8 + r.val - 1, by omega⟩ : Fin 8) = 7 := Fin.ext (by show 8 + r.val - 1 = 7; omega)
    rw [e7]
  · rw [if_neg h, dif_neg (by omega : ¬ r.val < 1)]
    refine (gated_at a b _ e).trans ?_
    have er : (⟨(r.val + 512 - 1) % 512, Nat.mod_lt _ (by decide)⟩ : Fin 512) = ⟨r.val - 1, by omega⟩ := Fin.ext (by show (r.val + 512 - 1) % 512 = r.val - 1; omega)
    rw [er]

theorem two_at (a b : Vec Ideal S512x512 .bf16) (r : Fin 512) (e : Fin 512) (h : 2 ≤ r.val) :
    (k0_pay5 (F := Ideal) a b (ix2 r e) : EReal) = a (ix2 ⟨r.val - 2, by omega⟩ e) * b (ix2 ⟨r.val - 2, by omega⟩ e) := by
  pointwise [k0_pay5]
  refine (gated_at a b _ e).trans ?_
  have er : (⟨(r.val + 512 - 2) % 512, Nat.mod_lt _ (by decide)⟩ : Fin 512) = ⟨r.val - 2, by omega⟩ := Fin.ext (by show (r.val + 512 - 2) % 512 = r.val - 2; omega)
  rw [er]

theorem six_at (i : grid0.Coords) (p q : Vec Ideal S8x512 .bf16) (e : Fin 512) :
    (k0_pay7 (F := Ideal) i p q (ix2 0 e) : EReal) = k0_pay3 (F := Ideal) i p q (ix2 6 e) := by
  pointwise [k0_pay7]

theorem mix_at (u : FVec Ideal S512x512 .f32) (v : FVec Ideal S8x512 .f32) (s s2 : FVec Ideal S512x512 .f32) (q : FVec Ideal S1x512 .f32) (cw : Vec Ideal S3x512 .f32) (b : Vec Ideal S512x512 .bf16)
   (r : Fin 512) (e : Fin 512) :
    (k0_pay9 (F := Ideal) u v (iota .tc S512x1 32 [0] iota_S512x1_d0_w32) s s2 k0_pay6 q k0_pay8 cw b (ix2 r e) : EReal)
      = b (ix2 r e) * (cw (ix2 0 e) * (if r.val = 0 then q (ix2 0 e) else if r.val = 1 then v (ix2 7 e) else s2 (ix2 r e)) + cw (ix2 1 e) * s (ix2 r e) + cw (ix2 2 e) * u (ix2 r e)) := by
  pointwise [k0_pay9, k0_pay6, k0_pay8]
  rw [row_zero r, row_one r, select_ite (r.val = 1) (v (ix2 7 e)) (s2 (ix2 r e)), select_ite (r.val = 0)]

/-- The short convolution of a tile, gated. -/
def conv (i : ℕ) (x3 x4 x5 : Vec Ideal S512x512 .bf16) (x6 x7 : Vec Ideal S8x512 .bf16) (x8 : Vec Ideal S3x512 .f32) (r : Fin 512) (e : Fin 512) : EReal :=
  x3 (ix2 r e) * (x8 (ix2 0 e) * back i x4 x5 x6 x7 2 (by decide) r e + x8 (ix2 1 e) * back i x4 x5 x6 x7 1 (by decide) r e + x8 (ix2 2 e) * back i x4 x5 x6 x7 0 (by decide) r e)

theorem conv_at (i : grid0.Coords) (x3 x4 x5 : Vec Ideal S512x512 .bf16) (x6 x7 : Vec Ideal S8x512 .bf16) (x8 : Vec Ideal S3x512 .f32) (r : Fin 512) (e : Fin 512) :
    (k0_pay9 (F := Ideal) (k0_pay2 x4 x5) (k0_pay3 i x6 x7) (iota .tc S512x1 32 [0] iota_S512x1_d0_w32)
        (k0_pay4 i x4 x5 x6 x7) (k0_pay5 x4 x5) k0_pay6 (k0_pay7 i x6 x7) k0_pay8 x8 x3 (ix2 r e) : EReal) = conv (i 0).val x3 x4 x5 x6 x7 x8 r e := by
  refine (mix_at _ _ _ _ _ _ _ r e).trans ?_
  have h2 : (if r.val = 0 then (k0_pay7 (F := Ideal) i x6 x7 (ix2 0 e) : EReal) else if r.val = 1 then k0_pay3 (F := Ideal) i x6 x7 (ix2 7 e) else k0_pay5 (F := Ideal) x4 x5 (ix2 r e)) = back (i 0).val x4 x5 x6 x7 2 (by decide) r e := by
    unfold back
    by_cases h0 : r.val = 0
    · rw [if_pos h0, dif_pos (by omega : r.val < 2)]
      refine (six_at i x6 x7 e).trans ((before_at i x6 x7 6 e).trans ?_)
      have e7 : (⟨8 + r.val - 2, by omega⟩ : Fin 8) = 6 := Fin.ext (by show 8 + r.val - 2 = 6; omega)
      rw [e7]
    · rw [if_neg h0]
      by_cases h1 : r.val = 1
      · rw [if_pos h1, dif_pos (by omega : r.val < 2)]
        refine (before_at i x6 x7 7 e).trans ?_
        have e7 : (⟨8 + r.val - 2, by omega⟩ : Fin 8) = 7 := Fin.ext (by show 8 + r.val - 2 = 7; omega)
        rw [e7]
      · rw [if_neg h1, dif_neg (by omega : ¬ r.val < 2)]
        exact two_at x4 x5 r e (by omega)
  have h1 := one_at i x4 x5 x6 x7 r e
  have h0 : (k0_pay2 (F := Ideal) x4 x5 (ix2 r e) : EReal) = back (i 0).val x4 x5 x6 x7 0 (by decide) r e := by
    refine (gated_at x4 x5 r e).trans ?_
    unfold back
    rw [dif_neg (by omega : ¬ r.val < 0)]
    rfl
  unfold conv
  rw [h2, h1, h0]

/-- One entry of the tile's output. -/
def outAt (i : ℕ) (x0 x1 x2 x3 x4 x5 : Vec Ideal S512x512 .bf16) (x6 x7 : Vec Ideal S8x512 .bf16) (x8 : Vec Ideal S3x512 .f32) (x9 : Vec Ideal S2048x2048 .bf16) (x10 : Vec Ideal S512x2048 .f32) (r : Fin 512) (d : Fin 2048) : EReal :=
  x10 (ix2 r d) + ((∑ k : Fin 512, (x0 (ix2 r k) : EReal) * x9 (ix2 ⟨k.val, by omega⟩ d)) + (∑ k : Fin 512, (x1 (ix2 r k) : EReal) * x9 (ix2 ⟨512 + k.val, by omega⟩ d)) + (∑ k : Fin 512, (x2 (ix2 r k) : EReal) * x9 (ix2 ⟨1024 + k.val, by omega⟩ d))
    + ∑ k : Fin 512, conv i x3 x4 x5 x6 x7 x8 r k * x9 (ix2 ⟨1536 + k.val, by omega⟩ d))

theorem slice_at (o : ℕ) (ho : o + 512 ≤ 2048) (inb : ∀ a, (![o, 0] : Fin 2 → ℕ) a + (![512, 2048] : Fin 2 → ℕ) a ≤ S2048x2048.size a) (x9 : Vec Ideal S2048x2048 .bf16) (k : Fin 512) (d : Fin 2048) :
    (View.ld x9 (Rect.unit (s := S2048x2048) ![o, 0] ![512, 2048] inb) : Vec Ideal S512x2048 .bf16) (ix2 k d) = x9 (ix2 ⟨o + k.val, by omega⟩ d) := by
  unfold View.ld
  congr 1
  funext a
  fin_cases a
  · apply Fin.ext; show o + 1 * k.val = o + k.val; omega
  · apply Fin.ext; show 0 + 1 * d.val = d.val; omega

theorem out_eq (c : Dev nD) (t : Fin cfg0.N) (x0 x1 x2 x3 x4 x5 : Vec Ideal S512x512 .bf16) (x6 x7 : Vec Ideal S8x512 .bf16) (x8 : Vec Ideal S3x512 .f32) (x9 : Vec Ideal S2048x2048 .bf16) (x10 : Vec Ideal S512x2048 .f32) (x11 : Vec Ideal S1x2048 .f32) (x12 x13 : Vec Ideal S2048x128 .bf16) (x14 : Vec Ideal S1x128 .f32) (r : Fin 512) (d : Fin 2048) :
    @Eq EReal (out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
      x0 x1 x2 x3 x4 x5 x6 x7 x8 x9 x10 x11 x12 x13 x14 (ix2 r d)) (outAt t.val x0 x1 x2 x3 x4 x5 x6 x7 x8 x9 x10 r d) := by
  frame_out
  have hi : (grid0.coords t 0).val = t.val := (by decide +kernel : ∀ t : Fin grid0.N, (grid0.coords t 0).val = t.val) t
  refine (sum_at _ _ _ _ r d).trans ?_
  refine congrArg (fun z : EReal => x10 (ix2 r d) + z) ?_
  refine congrArg₂ (fun y z : EReal => y + z) ((dots_at _ _ _ _ _ _ r d).trans (congrArg₂ (fun y z : EReal => y + z) (congrArg₂ (fun y z : EReal => y + z) ?_ ?_) ?_)) ?_
  · refine Finset.sum_congr rfl fun k _ => congrArg (fun z : EReal => (x0 (ix2 r k) : EReal) * z) ((slice_at 0 (by decide) _ x9 k d).trans ?_)
    congr 2
    exact Fin.ext (Nat.zero_add _)
  · exact Finset.sum_congr rfl fun k _ => congrArg (fun z : EReal => (x1 (ix2 r k) : EReal) * z) (slice_at 512 (by decide) _ x9 k d)
  · exact Finset.sum_congr rfl fun k _ => congrArg (fun z : EReal => (x2 (ix2 r k) : EReal) * z) (slice_at 1024 (by decide) _ x9 k d)
  · refine Finset.sum_congr rfl fun k _ => congrArg₂ (fun y z : EReal => y * z) ?_ (slice_at 1536 (by decide) _ x9 k d)
    exact (conv_at _ x3 x4 x5 x6 x7 x8 r k).trans (by rw [hi])

end Cert.Kernel4Ideal.Outproj

end
-- ==== Proof.OutprojReference.lean ====
module

public import proofs.«01_k».proof.Proof.Gen.Reference4Ideal.Run
public import proofs.«01_k».proof.Proof.Linear

/-!
The output projection's reference, entry by entry.
-/

@[expose] public section

set_option maxRecDepth 16384

noncomputable section

namespace Cert.Reference4Ideal.Outproj

open Cert.Reference4Ideal Cert.Reference4Ideal.Gen Idealize.ShloMosaic Idealize.ShloMosaic.TcCoe Idealize.SL.Sem Cert.Linear

/-- What the convolution runs over: the product of two columns of the projection. -/
def gated (P : Fin 32768 → Fin 6400 → EReal) (R : Fin 32768) (e : Fin 512) : EReal :=
  P R ⟨5120 + e.val, by omega⟩ * P R ⟨5632 + e.val, by omega⟩

/-- The same `n` rows earlier of the sequence, zero before its beginning. -/
def behind (P : Fin 32768 → Fin 6400 → EReal) (n : ℕ) (R : Fin 32768) (e : Fin 512) : EReal :=
  if R.val % 4096 < n then 0 else gated P ⟨R.val - n, by omega⟩ e

/-- The gated short convolution. -/
def short (P : Fin 32768 → Fin 6400 → EReal) (C : Fin 3 → Fin 512 → EReal) (R : Fin 32768) (e : Fin 512) : EReal :=
  P R ⟨4608 + e.val, by omega⟩ * (C 0 e * behind P 2 R e + C 1 e * behind P 1 R e + C 2 e * behind P 0 R e)

/-- The residual plus the projection of the four mixers' outputs. -/
def residualSum (x : Fin 32768 → Fin 2048 → EReal) (ya yb yc : Fin 32768 → Fin 512 → EReal) (P : Fin 32768 → Fin 6400 → EReal) (C : Fin 3 → Fin 512 → EReal) (W : Fin 2048 → Fin 2048 → EReal) (R : Fin 32768) (d : Fin 2048) : EReal :=
  x R d + ((∑ k : Fin 512, ya R k * W ⟨k.val, by omega⟩ d) + (∑ k : Fin 512, yb R k * W ⟨512 + k.val, by omega⟩ d) + (∑ k : Fin 512, yc R k * W ⟨1024 + k.val, by omega⟩ d)
    + ∑ k : Fin 512, short P C R k * W ⟨1536 + k.val, by omega⟩ d)

/-- The columns the convolution takes, one sequence after another. -/
def parts (P : FVec Ideal S32768x6400 .bf16) : FVec Ideal S8x4096x1536 .f32 :=
  shapeCast _ (extf .f32 (extractStridedSlice S32768x1536 ![0, 4608] P slices_S32768x6400_S32768x1536_0_4608) bitsLt_bf16_f32) shapeCasts_S32768x1536_S8x4096x1536

def gatedRows (P : FVec Ideal S32768x6400 .bf16) : FVec Ideal S8x4096x512 .f32 :=
  mulf (extractStridedSlice S8x4096x512 ![0, 0, 512] (parts P) slices_S8x4096x1536_S8x4096x512_0_0_512) (extractStridedSlice S8x4096x512 ![0, 0, 1024] (parts P) slices_S8x4096x1536_S8x4096x512_0_0_1024)

/-- Two rows of zeros before every sequence. -/
def padded (U : FVec Ideal S8x4096x512 .f32) : FVec Ideal S8x4098x512 .f32 :=
  pad S8x4098x512 ![0, 2, 0] ![0, 0, 0] ![0, 0, 0] U (sitofp .f32 (constantI S_ 32 0#32)) pads_S8x4096x512_S8x4098x512_000_200_000 h_S_

def conv (U : FVec Ideal S8x4096x512 .f32) (C : FVec Ideal S3x512 .f32) : FVec Ideal S8x4096x512 .f32 :=
  addf (addf (mulf (broadcastInDim S8x4096x512 ![0, 1, 2] bcast_S1x1x512_S8x4096x512_0_1_2 (broadcastInDim S1x1x512 ![2] bcast_S512_S1x1x512_2 (shapeCast _ (extractStridedSlice S1x512 ![0, 0] C slices_S3x512_S1x512_0_0) shapeCasts_S1x512_S512))) (extractStridedSlice S8x4096x512 ![0, 0, 0] (padded U) slices_S8x4098x512_S8x4096x512_0_0_0)) (mulf (broadcastInDim S8x4096x512 ![0, 1, 2] bcast_S1x1x512_S8x4096x512_0_1_2 (broadcastInDim S1x1x512 ![2] bcast_S512_S1x1x512_2 (shapeCast _ (extractStridedSlice S1x512 ![1, 0] C slices_S3x512_S1x512_1_0) shapeCasts_S1x512_S512))) (extractStridedSlice S8x4096x512 ![0, 1, 0] (padded U) slices_S8x4098x512_S8x4096x512_0_1_0))) (mulf (broadcastInDim S8x4096x512 ![0, 1, 2] bcast_S1x1x512_S8x4096x512_0_1_2 (broadcastInDim S1x1x512 ![2] bcast_S512_S1x1x512_2 (shapeCast _ (extractStridedSlice S1x512 ![2, 0] C slices_S3x512_S1x512_2_0) shapeCasts_S1x512_S512))) (extractStridedSlice S8x4096x512 ![0, 2, 0] (padded U) slices_S8x4098x512_S8x4096x512_0_2_0))

def shortRows (P : FVec Ideal S32768x6400 .bf16) (C : FVec Ideal S3x512 .f32) : FVec Ideal S8x4096x512 .f32 :=
  mulf (extractStridedSlice S8x4096x512 ![0, 0, 0] (parts P) slices_S8x4096x1536_S8x4096x512_0_0_0) (conv (gatedRows P) C)

def joined (YA YB YC : FVec Ideal S32768x512 .bf16) (P : FVec Ideal S32768x6400 .bf16) (C : FVec Ideal S3x512 .f32) : FVec Ideal S32768x2048 .f32 :=
  ((concatenate S32768x2048 1 [⟨S32768x512, ((extf .f32 YA bitsLt_bf16_f32) : (⟨S32768x512, .f32⟩ : BufTy).Contents (Elt Ideal))⟩, ⟨S32768x512, ((extf .f32 YB bitsLt_bf16_f32) : (⟨S32768x512, .f32⟩ : BufTy).Contents (Elt Ideal))⟩, ⟨S32768x512, ((extf .f32 YC bitsLt_bf16_f32) : (⟨S32768x512, .f32⟩ : BufTy).Contents (Elt Ideal))⟩, ⟨S32768x512, ((shapeCast _ (shortRows P C) shapeCasts_S8x4096x512_S32768x512) : (⟨S32768x512, .f32⟩ : BufTy).Contents (Elt Ideal))⟩] concatenates_S32768x512_S32768x512_S32768x512_S32768x512_S32768x2048_d1 : (⟨S32768x2048, .f32⟩ : BufTy).Contents (Elt Ideal)))

/-- The reference's result. -/
def result (YA YB YC : FVec Ideal S32768x512 .bf16) (P : FVec Ideal S32768x6400 .bf16) (X : FVec Ideal S8x4096x2048 .f32) (C : FVec Ideal S3x512 .f32) (W : FVec Ideal S2048x2048 .f32) : FVec Ideal S32768x2048 .f32 :=
  addf (shapeCast _ X shapeCasts_S8x4096x2048_S32768x2048) (Host.dotGeneral dot_S32768x2048_S2048x2048_S32768x2048_1_0_0_1_n_n none (joined YA YB YC P C) W)

/-- What the reference leaves is `result` of its arguments. -/
theorem res_eq (m : (ℓ : Loc nD τ sig) → Buf (Elt Ideal) ℓ) (c : Dev nD) :
    Cert.Reference4Ideal.Value.res_out0 (F := Ideal) m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

theorem gatedRows_at (P : FVec Ideal S32768x6400 .bf16) (b : Fin 8) (t : Fin 4096) (e : Fin 512) (R : Fin 32768) (hR : R.val = b.val * 4096 + t.val) :
    (gatedRows P (ix3 b t e) : EReal) = gated (fun r j => P (ix2 r j)) R e := by
  obtain ⟨R, hR'⟩ := R
  dsimp only at hR
  subst hR
  unfold gated
  pointwise [gatedRows, parts]
  have e1 : (⟨4608 + (512 + e.val), by omega⟩ : Fin 6400) = ⟨5120 + e.val, by omega⟩ := Fin.ext (by dsimp only; omega)
  have e2 : (⟨4608 + (1024 + e.val), by omega⟩ : Fin 6400) = ⟨5632 + e.val, by omega⟩ := Fin.ext (by dsimp only; omega)
  rw [e1, e2]

theorem zero_real : (FloatOps.sitofp (F := Ideal) FTy.f32 0#32 : EReal) = 0 := by
  show (((0#32 : BitVec 32).toInt : ℝ) : EReal) = 0
  simp

theorem padded_at (U : FVec Ideal S8x4096x512 .f32) (b : Fin 8) (t : Fin 4098) (e : Fin 512) :
    (padded U (ix3 b t e) : EReal) = if h : t.val < 2 then 0 else U (ix3 b ⟨t.val - 2, by omega⟩ e) := by
  pointwise [padded]
  by_cases h : t.val < 2
  · rw [dif_pos h, dif_neg (by omega)]
    exact zero_real
  · rw [dif_neg h, dif_pos (by omega)]

/-- The padded rows are the rows of the same sequence, earlier. -/
theorem padded_behind (P : FVec Ideal S32768x6400 .bf16) (n : ℕ) (hn : n ≤ 2) (b : Fin 8) (t : Fin 4096) (T : Fin 4098) (e : Fin 512) (R : Fin 32768) (hR : R.val = b.val * 4096 + t.val) (hT : T.val + n = t.val + 2) :
    (padded (gatedRows P) (ix3 b T e) : EReal) = behind (fun r j => P (ix2 r j)) n R e := by
  refine (padded_at _ b T e).trans ?_
  have ht := t.isLt
  have e0 : R.val % 4096 = t.val := by omega
  unfold behind
  by_cases h : T.val < 2
  · rw [dif_pos h, if_pos (by omega)]
  · rw [dif_neg h, if_neg (by omega)]
    exact gatedRows_at P b _ e ⟨R.val - n, by omega⟩ (by dsimp only; omega)

theorem conv_at (U : FVec Ideal S8x4096x512 .f32) (C : FVec Ideal S3x512 .f32) (b : Fin 8) (t : Fin 4096) (e : Fin 512) :
    (conv U C (ix3 b t e) : EReal) = C (ix2 0 e) * padded U (ix3 b ⟨t.val, by omega⟩ e) + C (ix2 1 e) * padded U (ix3 b ⟨1 + t.val, by omega⟩ e) + C (ix2 2 e) * padded U (ix3 b ⟨2 + t.val, by omega⟩ e) := by
  pointwise [conv]

theorem shortRows_split (P : FVec Ideal S32768x6400 .bf16) (C : FVec Ideal S3x512 .f32) (b : Fin 8) (t : Fin 4096) (e : Fin 512) (R : Fin 32768) (hR : R.val = b.val * 4096 + t.val) :
    (shortRows P C (ix3 b t e) : EReal) = P (ix2 R ⟨4608 + e.val, by omega⟩) * conv (gatedRows P) C (ix3 b t e) := by
  obtain ⟨R, hR'⟩ := R
  dsimp only at hR
  subst hR
  pointwise [shortRows, parts]

theorem shortRows_at (P : FVec Ideal S32768x6400 .bf16) (C : FVec Ideal S3x512 .f32) (b : Fin 8) (t : Fin 4096) (e : Fin 512) (R : Fin 32768) (hR : R.val = b.val * 4096 + t.val) :
    (shortRows P C (ix3 b t e) : EReal) = short (fun r j => P (ix2 r j)) (fun i j => C (ix2 i j)) R e := by
  rw [shortRows_split P C b t e R hR, conv_at]
  rw [padded_behind P 2 (by decide) b t ⟨t.val, by omega⟩ e R hR (by dsimp only), padded_behind P 1 (by decide) b t ⟨1 + t.val, by omega⟩ e R hR (by dsimp only; omega),
    padded_behind P 0 (by decide) b t ⟨2 + t.val, by omega⟩ e R hR (by dsimp only; omega)]
  rfl

theorem result_split (YA YB YC : FVec Ideal S32768x512 .bf16) (P : FVec Ideal S32768x6400 .bf16) (X : FVec Ideal S8x4096x2048 .f32) (C : FVec Ideal S3x512 .f32) (W : FVec Ideal S2048x2048 .f32) (R : Fin 32768) (d : Fin 2048) :
    (result YA YB YC P X C W (ix2 R d) : EReal) = X (ix3 (⟨R.val / 4096, by omega⟩ : Fin 8) (⟨R.val % 4096, by omega⟩ : Fin 4096) d) + ∑ k : Fin 2048, joined YA YB YC P C (ix2 R k) * W (ix2 k d) := by
  pointwise [result]

theorem joined_at (YA YB YC : FVec Ideal S32768x512 .bf16) (P : FVec Ideal S32768x6400 .bf16) (C : FVec Ideal S3x512 .f32) (R : Fin 32768) (k : Fin 2048) :
    (joined YA YB YC P C (ix2 R k) : EReal) = if h : k.val < 512 then YA (ix2 R ⟨k.val, h⟩)
      else if h : k.val - 512 < 512 then YB (ix2 R ⟨k.val - 512, h⟩)
      else if h : k.val - 512 - 512 < 512 then YC (ix2 R ⟨k.val - 512 - 512, h⟩)
      else shortRows P C (ix3 (⟨R.val / 4096, by omega⟩ : Fin 8) (⟨R.val % 4096, by omega⟩ : Fin 4096) ⟨k.val - 512 - 512 - 512, by omega⟩) := by
  pointwise [joined]

/-- A sum over the columns, four blocks of them. -/
theorem sum_blocks (f : Fin 2048 → EReal) : ∑ k : Fin 2048, f k
    = (∑ k : Fin 512, f ⟨k.val, by omega⟩) + (∑ k : Fin 512, f ⟨512 + k.val, by omega⟩) + (∑ k : Fin 512, f ⟨1024 + k.val, by omega⟩) + ∑ k : Fin 512, f ⟨1536 + k.val, by omega⟩ := by
  have h1 := Fin.sum_univ_add (a := 1536) (b := 512) (f : Fin (1536 + 512) → EReal)
  have h2 := Fin.sum_univ_add (a := 1024) (b := 512) (fun k : Fin (1024 + 512) => f (Fin.castAdd 512 k))
  have h3 := Fin.sum_univ_add (a := 512) (b := 512) (fun k : Fin (512 + 512) => f (Fin.castAdd 512 (Fin.castAdd 512 k)))
  exact h1.trans (congrArg (fun z : EReal => z + _) (h2.trans (congrArg (fun z : EReal => z + _) h3)))

/-- One entry of the reference's result. -/
theorem result_at (YA YB YC : FVec Ideal S32768x512 .bf16) (P : FVec Ideal S32768x6400 .bf16) (X : FVec Ideal S8x4096x2048 .f32) (C : FVec Ideal S3x512 .f32) (W : FVec Ideal S2048x2048 .f32) (R : Fin 32768) (d : Fin 2048) :
    (result YA YB YC P X C W (ix2 R d) : EReal) = residualSum (fun r j => X (ix3 (⟨r.val / 4096, by omega⟩ : Fin 8) (⟨r.val % 4096, by omega⟩ : Fin 4096) j)) (fun r j => YA (ix2 r j)) (fun r j => YB (ix2 r j)) (fun r j => YC (ix2 r j))
      (fun r j => P (ix2 r j)) (fun i j => C (ix2 i j)) (fun k j => W (ix2 k j)) R d := by
  rw [result_split, sum_blocks]
  unfold residualSum
  refine congrArg (fun z : EReal => X (ix3 (⟨R.val / 4096, by omega⟩ : Fin 8) (⟨R.val % 4096, by omega⟩ : Fin 4096) d) + z) ?_
  refine congrArg₂ (fun y z : EReal => y + z) (congrArg₂ (fun y z : EReal => y + z) (congrArg₂ (fun y z : EReal => y + z) ?_ ?_) ?_) ?_
  · refine Finset.sum_congr rfl fun k _ => congrArg (fun z : EReal => z * W (ix2 ⟨k.val, by omega⟩ d)) ?_
    rw [joined_at, dif_pos k.isLt]
  · refine Finset.sum_congr rfl fun k _ => congrArg (fun z : EReal => z * W (ix2 ⟨512 + k.val, by omega⟩ d)) ?_
    rw [joined_at, dif_neg (show ¬ 512 + k.val < 512 by omega), dif_pos (show 512 + k.val - 512 < 512 by omega)]
    exact congrArg (fun z => (YB (ix2 R z) : EReal)) (Fin.ext (by dsimp only; omega))
  · refine Finset.sum_congr rfl fun k _ => congrArg (fun z : EReal => z * W (ix2 ⟨1024 + k.val, by omega⟩ d)) ?_
    rw [joined_at, dif_neg (show ¬ 1024 + k.val < 512 by omega), dif_neg (show ¬ 1024 + k.val - 512 < 512 by omega), dif_pos (show 1024 + k.val - 512 - 512 < 512 by omega)]
    exact congrArg (fun z => (YC (ix2 R z) : EReal)) (Fin.ext (by dsimp only; omega))
  · refine Finset.sum_congr rfl fun k _ => congrArg (fun z : EReal => z * W (ix2 ⟨1536 + k.val, by omega⟩ d)) ?_
    rw [joined_at, dif_neg (show ¬ 1536 + k.val < 512 by omega), dif_neg (show ¬ 1536 + k.val - 512 < 512 by omega), dif_neg (show ¬ 1536 + k.val - 512 - 512 < 512 by omega)]
    have e : (⟨1536 + k.val - 512 - 512 - 512, by omega⟩ : Fin 512) = k := Fin.ext (by dsimp only; omega)
    rw [e]
    exact shortRows_at P C _ _ k R (by dsimp only; omega)

end Cert.Reference4Ideal.Outproj

end
-- ==== Proof.OutprojValue.lean ====
module

public import proofs.«01_k».proof.Proof.OutprojBlock
public import proofs.«01_k».proof.Proof.OutprojReference
public import proofs.«01_k».proof.Proof.Gen.Kernel4Ideal.Value
public import proofs.«01_k».proof.Defs
public import Idealize.ShloMosaic.Lib.StableHlo.ReadAt
public import Idealize.ShloMosaic.Lib.Claim

/-!
The array the output projection leaves.
-/

@[expose] public section

set_option maxRecDepth 16384

noncomputable section

namespace Cert.Kernel4Ideal.Outproj

open Cert.Kernel4Ideal Cert.Kernel4Ideal.Gen Idealize.ShloMosaic Idealize.ShloMosaic.TcCoe Idealize.SL.Sem Cert.Linear
open Cert.Reference4Ideal.Outproj (gated behind short residualSum)

/-- Which block of its array each window stages at each grid point. -/
theorem idx : ∀ t : Fin cfg0.N, win0_0.index t = ![t.val, 0] ∧ win0_1.index t = ![t.val, 0] ∧ win0_2.index t = ![t.val, 0]
    ∧ win0_3.index t = ![t.val, 9] ∧ win0_4.index t = ![t.val, 10] ∧ win0_5.index t = ![t.val, 11]
    ∧ win0_6.index t = ![t.val * 64 - 1, 10] ∧ win0_7.index t = ![t.val * 64 - 1, 11] ∧ win0_8.index t = ![0, 0] ∧ win0_9.index t = ![0, 0]
    ∧ win0_10.index t = ![t.val, 0] ∧ win0_15.index t = ![t.val, 0] ∧ t.val < 64 :=
  (by decide +kernel : ∀ t : Fin grid0.N, _)

variable (m : (ℓ : Loc nD τ sig) → Buf (Elt Ideal) ℓ)

/-- The packed projection. -/
def P (c : Dev nD) : Fin 32768 → Fin 6400 → EReal := fun r j => (m ((c.tc : Thread nD τ).loc main_arg3)) (ix2 r j)

/-- The residual rows. -/
def X (c : Dev nD) : Fin 32768 → Fin 2048 → EReal := fun r j => (m ((c.tc : Thread nD τ).loc main_arg4)) (ix3 (⟨r.val / 4096, by omega⟩ : Fin 8) (⟨r.val % 4096, by omega⟩ : Fin 4096) j)

/-- The convolution's weights. -/
def C (c : Dev nD) : Fin 3 → Fin 512 → EReal := fun r j => (m ((c.tc : Thread nD τ).loc main_arg5)) (ix2 r j)

/-- The projection's weights. -/
def W (c : Dev nD) : Fin 2048 → Fin 2048 → EReal := fun r j => (m ((c.tc : Thread nD τ).loc main_arg6)) (ix2 r j)

/-- The host lays the batch's sequences one after another. -/
theorem host_rows (c : Dev nD) (r : Fin 32768) (j : Fin 2048) : @Eq EReal (V m c main_v0 (ix2 r j)) (X m c r j) := by
  unfold V
  after_reads_at
  unfold X
  rfl

theorem host_weights (c : Dev nD) (r : Fin 2048) (j : Fin 2048) : @Eq EReal (V m c main_v10 (ix2 r j)) (W m c r j) := by
  unfold V
  after_reads_at
  unfold W
  rfl

/-- Window 0 stages a tile of one mixer's output. -/
theorem staged0 (c : Dev nD) (t : Fin cfg0.N) (r k : Fin 512) (R : Fin 32768) (hR : R.val = t.val * 512 + r.val) :
    @Eq EReal (iblk m c 0 t (ix2 r k)) ((m ((c.tc : Thread nD τ).loc main_arg0)) (ix2 R k)) := by
  have ht := (idx t).2.2.2.2.2.2.2.2.2.2.2.2
  blk_ext [iblk, V, idx t]

/-- Window 1 stages a tile of one mixer's output. -/
theorem staged1 (c : Dev nD) (t : Fin cfg0.N) (r k : Fin 512) (R : Fin 32768) (hR : R.val = t.val * 512 + r.val) :
    @Eq EReal (iblk m c 1 t (ix2 r k)) ((m ((c.tc : Thread nD τ).loc main_arg1)) (ix2 R k)) := by
  have ht := (idx t).2.2.2.2.2.2.2.2.2.2.2.2
  blk_ext [iblk, V, idx t]

/-- Window 2 stages a tile of one mixer's output. -/
theorem staged2 (c : Dev nD) (t : Fin cfg0.N) (r k : Fin 512) (R : Fin 32768) (hR : R.val = t.val * 512 + r.val) :
    @Eq EReal (iblk m c 2 t (ix2 r k)) ((m ((c.tc : Thread nD τ).loc main_arg2)) (ix2 R k)) := by
  have ht := (idx t).2.2.2.2.2.2.2.2.2.2.2.2
  blk_ext [iblk, V, idx t]

/-- Window 3 stages a tile of 512 columns of the packed projection. -/
theorem staged3 (c : Dev nD) (t : Fin cfg0.N) (r k : Fin 512) (R : Fin 32768) (E : Fin 6400) (hR : R.val = t.val * 512 + r.val) (hE : E.val = 4608 + k.val) :
    @Eq EReal (X0_3 m c t (ix2 r k)) (P m c R E) := by
  have ht := (idx t).2.2.2.2.2.2.2.2.2.2.2.2
  unfold X0_3 Pipeline.Window.fill
  rw [dif_pos (moved0_3 t _)]
  unfold P
  blk_ext [iblk, V, idx t]

/-- Window 4 stages a tile of 512 columns of the packed projection. -/
theorem staged4 (c : Dev nD) (t : Fin cfg0.N) (r k : Fin 512) (R : Fin 32768) (E : Fin 6400) (hR : R.val = t.val * 512 + r.val) (hE : E.val = 5120 + k.val) :
    @Eq EReal (X0_4 m c t (ix2 r k)) (P m c R E) := by
  have ht := (idx t).2.2.2.2.2.2.2.2.2.2.2.2
  unfold X0_4 Pipeline.Window.fill
  rw [dif_pos (moved0_4 t _)]
  unfold P
  blk_ext [iblk, V, idx t]

/-- Window 5 stages a tile of 512 columns of the packed projection. -/
theorem staged5 (c : Dev nD) (t : Fin cfg0.N) (r k : Fin 512) (R : Fin 32768) (E : Fin 6400) (hR : R.val = t.val * 512 + r.val) (hE : E.val = 5632 + k.val) :
    @Eq EReal (X0_5 m c t (ix2 r k)) (P m c R E) := by
  have ht := (idx t).2.2.2.2.2.2.2.2.2.2.2.2
  unfold X0_5 Pipeline.Window.fill
  rw [dif_pos (moved0_5 t _)]
  unfold P
  blk_ext [iblk, V, idx t]

/-- Window 6 stages the eight rows before the tile, of 512 columns of the packed projection. -/
theorem staged6 (c : Dev nD) (t : Fin cfg0.N) (r : Fin 8) (k : Fin 512) (R : Fin 32768) (E : Fin 6400) (hR : R.val = (t.val * 64 - 1) * 8 + r.val) (hE : E.val = 5120 + k.val) :
    @Eq EReal (X0_6 m c t (ix2 r k)) (P m c R E) := by
  have ht := (idx t).2.2.2.2.2.2.2.2.2.2.2.2
  unfold X0_6 Pipeline.Window.fill
  rw [dif_pos (moved0_6 t _)]
  unfold P
  blk_ext [iblk, V, idx t]

/-- Window 7 stages the eight rows before the tile, of 512 columns of the packed projection. -/
theorem staged7 (c : Dev nD) (t : Fin cfg0.N) (r : Fin 8) (k : Fin 512) (R : Fin 32768) (E : Fin 6400) (hR : R.val = (t.val * 64 - 1) * 8 + r.val) (hE : E.val = 5632 + k.val) :
    @Eq EReal (X0_7 m c t (ix2 r k)) (P m c R E) := by
  have ht := (idx t).2.2.2.2.2.2.2.2.2.2.2.2
  unfold X0_7 Pipeline.Window.fill
  rw [dif_pos (moved0_7 t _)]
  unfold P
  blk_ext [iblk, V, idx t]

/-- Window 8 stages the convolution's weights. -/
theorem staged8 (c : Dev nD) (t : Fin cfg0.N) (r : Fin 3) (k : Fin 512) : @Eq EReal (iblk m c 8 t (ix2 r k)) (C m c r k) := by
  have ht := (idx t).2.2.2.2.2.2.2.2.2.2.2.2
  unfold C
  blk_ext [iblk, V, idx t]

/-- Window 9 stages the projection's weights. -/
theorem staged9 (c : Dev nD) (t : Fin cfg0.N) (r k : Fin 2048) : @Eq EReal (iblk m c 9 t (ix2 r k)) (W m c r k) := by
  have ht := (idx t).2.2.2.2.2.2.2.2.2.2.2.2
  refine Eq.trans ?_ (host_weights m c r k)
  blk_ext [iblk, idx t]

/-- Window 10 stages a tile of the residual rows. -/
theorem staged10 (c : Dev nD) (t : Fin cfg0.N) (r : Fin 512) (k : Fin 2048) (R : Fin 32768) (hR : R.val = t.val * 512 + r.val) :
    @Eq EReal (iblk m c 10 t (ix2 r k)) (X m c R k) := by
  have ht := (idx t).2.2.2.2.2.2.2.2.2.2.2.2
  refine Eq.trans ?_ (host_rows m c R k)
  blk_ext [iblk, idx t]

/-- The rows up from a tile's row are the rows up in the sequence, when the staged blocks hold the packed projection's rows. -/
theorem back_behind (Q : Fin 32768 → Fin 6400 → EReal) (i : ℕ) (a b : Vec Ideal S512x512 .bf16) (p q : Vec Ideal S8x512 .bf16) (n : ℕ) (hn : n ≤ 8) (r : Fin 512) (e : Fin 512)
    (ha : ∀ (r' : Fin 512) (R' : Fin 32768), R'.val = i * 512 + r'.val → (a (ix2 r' e) : EReal) = Q R' ⟨5120 + e.val, by omega⟩)
    (hb : ∀ (r' : Fin 512) (R' : Fin 32768), R'.val = i * 512 + r'.val → (b (ix2 r' e) : EReal) = Q R' ⟨5632 + e.val, by omega⟩)
    (hp : ∀ (r' : Fin 8) (R' : Fin 32768), R'.val = (i * 64 - 1) * 8 + r'.val → (p (ix2 r' e) : EReal) = Q R' ⟨5120 + e.val, by omega⟩)
    (hq : ∀ (r' : Fin 8) (R' : Fin 32768), R'.val = (i * 64 - 1) * 8 + r'.val → (q (ix2 r' e) : EReal) = Q R' ⟨5632 + e.val, by omega⟩)
    (R : Fin 32768) (hR : R.val = i * 512 + r.val) :
    back i a b p q n hn r e = behind Q n R e := by
  have hr := r.isLt
  unfold back behind gated
  by_cases h : r.val < n
  · rw [dif_pos h]
    by_cases h8 : i % 8 = 0
    · rw [if_pos h8, if_pos (by omega)]
    · rw [if_neg h8, if_neg (by omega)]
      exact congrArg₂ (fun y z : EReal => y * z) (hp _ _ (by dsimp only; omega)) (hq _ _ (by dsimp only; omega))
  · rw [dif_neg h, if_neg (by omega)]
    exact congrArg₂ (fun y z : EReal => y * z) (ha _ _ (by dsimp only; omega)) (hb _ _ (by dsimp only; omega))

/-- The tile's entry is the output's, when the staged blocks hold what they should. -/
theorem outAt_eq (Q : Fin 32768 → Fin 6400 → EReal) (x : Fin 32768 → Fin 2048 → EReal) (ya yb yc : Fin 32768 → Fin 512 → EReal) (cw : Fin 3 → Fin 512 → EReal) (w : Fin 2048 → Fin 2048 → EReal) (i : ℕ)
    (x0 x1 x2 x3 x4 x5 : Vec Ideal S512x512 .bf16) (x6 x7 : Vec Ideal S8x512 .bf16) (x8 : Vec Ideal S3x512 .f32) (x9 : Vec Ideal S2048x2048 .bf16) (x10 : Vec Ideal S512x2048 .f32)
    (h0 : ∀ (r k : Fin 512) (R : Fin 32768), R.val = i * 512 + r.val → (x0 (ix2 r k) : EReal) = ya R k)
    (h1 : ∀ (r k : Fin 512) (R : Fin 32768), R.val = i * 512 + r.val → (x1 (ix2 r k) : EReal) = yb R k)
    (h2 : ∀ (r k : Fin 512) (R : Fin 32768), R.val = i * 512 + r.val → (x2 (ix2 r k) : EReal) = yc R k)
    (h3 : ∀ (r k : Fin 512) (R : Fin 32768), R.val = i * 512 + r.val → (x3 (ix2 r k) : EReal) = Q R ⟨4608 + k.val, by omega⟩)
    (h4 : ∀ (r k : Fin 512) (R : Fin 32768), R.val = i * 512 + r.val → (x4 (ix2 r k) : EReal) = Q R ⟨5120 + k.val, by omega⟩)
    (h5 : ∀ (r k : Fin 512) (R : Fin 32768), R.val = i * 512 + r.val → (x5 (ix2 r k) : EReal) = Q R ⟨5632 + k.val, by omega⟩)
    (h6 : ∀ (r : Fin 8) (k : Fin 512) (R : Fin 32768), R.val = (i * 64 - 1) * 8 + r.val → (x6 (ix2 r k) : EReal) = Q R ⟨5120 + k.val, by omega⟩)
    (h7 : ∀ (r : Fin 8) (k : Fin 512) (R : Fin 32768), R.val = (i * 64 - 1) * 8 + r.val → (x7 (ix2 r k) : EReal) = Q R ⟨5632 + k.val, by omega⟩)
    (h8 : ∀ (r : Fin 3) (k : Fin 512), (x8 (ix2 r k) : EReal) = cw r k)
    (h9 : ∀ (r k : Fin 2048), (x9 (ix2 r k) : EReal) = w r k)
    (h10 : ∀ (r : Fin 512) (k : Fin 2048) (R : Fin 32768), R.val = i * 512 + r.val → (x10 (ix2 r k) : EReal) = x R k)
    (r : Fin 512) (d : Fin 2048) (R : Fin 32768) (hR : R.val = i * 512 + r.val) :
    outAt i x0 x1 x2 x3 x4 x5 x6 x7 x8 x9 x10 r d = residualSum x ya yb yc Q cw w R d := by
  unfold outAt residualSum
  refine congrArg₂ (fun y z : EReal => y + z) (h10 r d R hR) (congrArg₂ (fun y z : EReal => y + z) (congrArg₂ (fun y z : EReal => y + z) (congrArg₂ (fun y z : EReal => y + z) ?_ ?_) ?_) ?_)
  · exact Finset.sum_congr rfl fun k _ => congrArg₂ (fun y z : EReal => y * z) (h0 r k R hR) (h9 _ d)
  · exact Finset.sum_congr rfl fun k _ => congrArg₂ (fun y z : EReal => y * z) (h1 r k R hR) (h9 _ d)
  · exact Finset.sum_congr rfl fun k _ => congrArg₂ (fun y z : EReal => y * z) (h2 r k R hR) (h9 _ d)
  · refine Finset.sum_congr rfl fun k _ => congrArg₂ (fun y z : EReal => y * z) ?_ (h9 _ d)
    unfold conv short
    have hb : ∀ (n : ℕ) (hn : n ≤ 8), back i x4 x5 x6 x7 n hn r k = behind Q n R k := fun n hn =>
      back_behind Q i x4 x5 x6 x7 n hn r k (fun r' => h4 r' k) (fun r' => h5 r' k) (fun r' => h6 r' k) (fun r' => h7 r' k) R hR
    rw [hb, hb, hb, h3 r k R hR, h8, h8, h8]

/-- The block each grid point leaves. -/
theorem block_at (c : Dev nD) (t : Fin cfg0.N) (r : Fin 512) (d : Fin 2048) (R : Fin 32768) (hR : R.val = t.val * 512 + r.val) :
    @Eq EReal ((outsAt0 m c t).1 (ix2 r d)) (residualSum (X m c) (fun r j => (m ((c.tc : Thread nD τ).loc main_arg0)) (ix2 r j)) (fun r j => (m ((c.tc : Thread nD τ).loc main_arg1)) (ix2 r j)) (fun r j => (m ((c.tc : Thread nD τ).loc main_arg2)) (ix2 r j)) (P m c) (C m c) (W m c) R d) := by
  unfold outsAt0
  dsimp only
  refine (out_eq c t (iblk m c 0 t) (iblk m c 1 t) (iblk m c 2 t) (X0_3 m c t) (X0_4 m c t) (X0_5 m c t) (X0_6 m c t) (X0_7 m c t) (iblk m c 8 t) (iblk m c 9 t) (iblk m c 10 t) (iblk m c 11 t) (iblk m c 12 t) (iblk m c 13 t) (iblk m c 14 t) r d).trans ?_
  exact outAt_eq _ _ _ _ _ _ _ _ _ _ _ _ _ _ _ _ _ _ _ (fun r k R h => staged0 m c t r k R h) (fun r k R h => staged1 m c t r k R h) (fun r k R h => staged2 m c t r k R h)
    (fun r k R h => staged3 m c t r k R _ h rfl) (fun r k R h => staged4 m c t r k R _ h rfl) (fun r k R h => staged5 m c t r k R _ h rfl)
    (fun r k R h => staged6 m c t r k R _ h rfl) (fun r k R h => staged7 m c t r k R _ h rfl)
    (fun r k => staged8 m c t r k) (fun r k => staged9 m c t r k) (fun r k R h => staged10 m c t r k R h) r d R hR

/-- The array the kernel leaves is the residual sum. -/
theorem final (c : Dev nD) :
    (dats m 0 c).arrAt 15 cfg0.N = (fun i => residualSum (X m c) (fun r j => (m ((c.tc : Thread nD τ).loc main_arg0)) (ix2 r j)) (fun r j => (m ((c.tc : Thread nD τ).loc main_arg1)) (ix2 r j)) (fun r j => (m ((c.tc : Thread nD τ).loc main_arg2)) (ix2 r j)) (P m c) (C m c) (W m c) (i 0) (i 1) : FVec Ideal S32768x2048 .f32) := by
  refine (dats m 0 c).arrAt_eq_of_covers 15 _ (by decide +kernel) fun t _ y => ?_
  have e0 : (((win0_15.blk t).view.emb y 0 : Fin _) : ℕ) = t.val * 512 + (y 0).val := by blk_simp [idx t]
  have e1 : (((win0_15.blk t).view.emb y 1 : Fin _) : ℕ) = (y 1).val := by blk_simp [idx t]
  obtain ⟨a, e, rfl⟩ : ∃ (a : Fin 512) (e : Fin 2048), y = ix2 a e := ⟨y 0, y 1, by funext k; fin_cases k <;> rfl⟩
  have e2 : (win0_15.blk t).view.emb (ix2 a e) 1 = e := Fin.ext e1
  have h := block_at m c t a e _ e0
  blk_simp
  rw [after0_15]
  refine h.trans ?_
  rw [e2]

end Cert.Kernel4Ideal.Outproj

end
-- ==== Proof.Softmax.lean ====
module

public import Idealize.ShloMosaic.PureOps.Ideal

@[expose] public section

noncomputable section

namespace Cert.Softmax

open Idealize.ShloMosaic

/-- A nonnegative finite factor distributes over a finite sum of extended reals. -/
theorem mul_sum_real {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The sum of finitely many real numbers is the same among the extended reals. -/
theorem sum_coe {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A maximum over the whole of a finite type started at minus infinity is the supremum. -/
theorem fold_max_eq_sup {ι : Type*} [Fintype ι] (f : ι → EReal) :
    Finset.univ.fold max ⊥ f = Finset.univ.sup f := rfl

/-- The exponential of a score, not plus infinity, less a real number is a nonnegative real. -/
theorem exp_sub_real {s : EReal} (hs : s ≠ ⊤) (m : ℝ) : ∃ r : ℝ, 0 ≤ r ∧ Ideal.exp (s - (m : EReal)) = (r : EReal) := by
  induction s using EReal.rec with
  | bot => exact ⟨0, le_rfl, by simp⟩
  | coe x => exact ⟨Real.exp (x - m), (Real.exp_pos _).le, by rw [← EReal.coe_sub, Ideal.exp_coe]⟩
  | top => exact absurd rfl hs

/-- The supremum of finitely many scores, none plus infinity and one above minus infinity, is a real number. -/
theorem sup_real {ι : Type*} [Fintype ι] (s : ι → EReal) (htop : ∀ i, s i ≠ ⊤) (i0 : ι) (h0 : s i0 ≠ ⊥) :
    ∃ m : ℝ, Finset.univ.sup s = (m : EReal) := by
  have h1 : Finset.univ.sup s ≠ ⊤ :=
    ((Finset.sup_lt_iff (by simp)).mpr fun i _ => lt_top_iff_ne_top.mpr (htop i)).ne
  have h2 : Finset.univ.sup s ≠ ⊥ := fun h =>
    h0 (le_bot_iff.mp (h ▸ Finset.le_sup (f := s) (Finset.mem_univ i0)))
  exact ⟨(Finset.univ.sup s).toReal, (EReal.coe_toReal h1 h2).symm⟩

/-- The sum of the exponentials of such scores less their supremum is a positive real number. -/
theorem sum_exp_pos {ι : Type*} [Fintype ι] (s : ι → EReal) (htop : ∀ i, s i ≠ ⊤) (i0 : ι) (h0 : s i0 ≠ ⊥) :
    ∃ R : ℝ, 0 < R ∧ ∑ i, Ideal.exp (s i - Finset.univ.sup s) = (R : EReal) := by
  obtain ⟨m, hm⟩ := sup_real s htop i0 h0
  choose r hr0 hr using fun i => exp_sub_real (htop i) m
  refine ⟨∑ i, r i, ?_, ?_⟩
  · refine Finset.sum_pos' (fun i _ => hr0 i) ⟨i0, Finset.mem_univ _, ?_⟩
    have h := hr i0
    obtain ⟨x, hx⟩ : ∃ x : ℝ, s i0 = (x : EReal) := ⟨_, (EReal.coe_toReal (htop i0) h0).symm⟩
    rw [hx, ← EReal.coe_sub, Ideal.exp_coe, EReal.coe_eq_coe_iff] at h
    rw [← h]; exact Real.exp_pos _
  · rw [hm, sum_coe]
    exact Finset.sum_congr rfl fun i _ => hr i

/-- ATTENTION OVER A WIDER SET OF KEYS. Scores `t` over a wider index set that agree with the scores `s` on the
    image of an injection and are minus infinity outside it, with values `w` that agree with `v` wherever a score is above minus
    infinity: the quotient of the weighted sum by the sum of the weights is the sum of the values under the normalised
    weights of the smaller set. The scores are below plus infinity and at least one is above minus infinity; the
    values may be anything. -/
theorem wider {ι κ : Type*} [Fintype ι] [Fintype κ] (f : ι → κ) (hf : Function.Injective f) (s : ι → EReal) (t : κ → EReal)
    (v : ι → EReal) (w : κ → EReal) (hin : ∀ i, t (f i) = s i) (hout : ∀ k, k ∉ Set.range f → t k = ⊥)
    (htop : ∀ i, s i ≠ ⊤) (i0 : ι) (h0 : s i0 ≠ ⊥) (hw : ∀ i, s i ≠ ⊥ → w (f i) = v i) :
    Ideal.div (∑ k, w k * Ideal.exp (t k - Finset.univ.sup t)) (∑ k, Ideal.exp (t k - Finset.univ.sup t))
      = ∑ i, Ideal.div (Ideal.exp (s i - Finset.univ.sup s)) (∑ j, Ideal.exp (s j - Finset.univ.sup s)) * v i := by
  have hsup : Finset.univ.sup t = Finset.univ.sup s := by
    apply le_antisymm
    · refine Finset.sup_le fun k _ => ?_
      by_cases hk : k ∈ Set.range f
      · obtain ⟨i, rfl⟩ := hk
        rw [hin]; exact Finset.le_sup (Finset.mem_univ i)
      · rw [hout k hk]; exact bot_le
    · refine Finset.sup_le fun i _ => ?_
      rw [← hin i]; exact Finset.le_sup (Finset.mem_univ (f i))
  rw [hsup]
  obtain ⟨m, hm⟩ := sup_real s htop i0 h0
  obtain ⟨R, hR, hsum⟩ := sum_exp_pos s htop i0 h0
  have hz : ∀ k, k ∉ Set.range f → Ideal.exp (t k - Finset.univ.sup s) = 0 := fun k hk => by
    rw [hout k hk, hm]; simp
  have hden : ∑ k, Ideal.exp (t k - Finset.univ.sup s) = (R : EReal) := by
    rw [← hsum]
    exact (Fintype.sum_of_injective f hf _ _ hz fun i => by rw [hin i]).symm
  have hnum : ∑ k, w k * Ideal.exp (t k - Finset.univ.sup s) = ∑ i, v i * Ideal.exp (s i - Finset.univ.sup s) := by
    refine (Fintype.sum_of_injective f hf _ _ (fun k hk => by rw [hz k hk, mul_zero]) fun i => ?_).symm
    rw [hin i]
    by_cases hi : s i = ⊥
    · rw [hi, hm]; simp
    · rw [hw i hi]
  rw [hden, hnum, hsum, Ideal.div_coe hR.ne']
  simp only [Ideal.div_coe hR.ne']
  rw [mul_comm, mul_sum_real _ _ (by exact_mod_cast (one_div_pos.mpr hR).le) (EReal.coe_ne_top _)]
  refine Finset.sum_congr rfl fun i _ => ?_
  rw [mul_comm (v i), ← mul_assoc, mul_comm _ (Ideal.exp _)]

end Cert.Softmax

end
-- ==== Proof.BandTile.lean ====
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem

/-- The masked scores of one head: 640 keys against 128 queries, plus the bias, and the mask's value where `valid` is off. -/
def headScores (valid : IVec S640x128 1) (k : Vec Ideal S1x640x64 .bf16) (q : FVec Ideal S128x64 .bf16) (b : Vec Ideal S1x640x128 .f32) : FVec Ideal S640x128 .f32 :=
  select valid (addf (matmul (φ₁ := .bf16) dot_S640x64_S128x64_S640x128_1_1_0_0_n_n none (shapeCast S640x64 k shapeCasts_S1x640x64_S640x64) q (constant S640x128 .f32 0x00000000#32))
    (shapeCast S640x128 b shapeCasts_S1x640x128_S640x128)) (broadcast S640x128 (Named.named (F := Ideal) κ "mask" 0xF149F2CA#32))

/-- The exponentials of the scores less each column's greatest. -/
def headExp (s : FVec Ideal S640x128 .f32) : FVec Ideal S640x128 .bf16 :=
  truncf .bf16 (exp (subf s (broadcastTo S640x128 (shapeCast S1x128 (multiReduction .maximumf [0] S128 s 0xFF800000#32 reduces_S640x128_S128 (.inl rfl) rfl) shapeCasts_S128_S1x128) broadcasts_S1x128_S640x128))) bitsLt_bf16_f32

/-- The transposed values, with a row of ones below, against the exponentials. -/
def headAcc (v : Vec Ideal S1x80x640 .bf16) (e : FVec Ideal S640x128 .bf16) : FVec Ideal S80x128 .f32 :=
  matmul (φ₁ := .bf16) dot_S80x640_S640x128_S80x128_1_0_0_1_n_n none (shapeCast S80x640 v shapeCasts_S1x80x640_S80x640) e (constant S80x128 .f32 0x00000000#32)

/-- The rows of values over the row of ones. -/
def headDiv (a : FVec Ideal S80x128 .f32) : FVec Ideal S64x128 .f32 :=
  divf (extractStridedSlice S64x128 ![0, 0] a slices_S80x128_o0_0_S64x128) (broadcastTo S64x128 (extractStridedSlice S1x128 ![64, 0] a slices_S80x128_o64_0_S1x128) broadcasts_S1x128_S64x128)

/-- One head's result for 128 queries, transposed. -/
def headOut (valid : IVec S640x128 1) (k : Vec Ideal S1x640x64 .bf16) (q : FVec Ideal S128x64 .bf16) (b : Vec Ideal S1x640x128 .f32) (v : Vec Ideal S1x80x640 .bf16) : FVec Ideal S64x128 .f32 :=
  headDiv (headAcc v (headExp (headScores valid k q b)))

/-- The eight heads' results side by side. -/
def tile (o0 o1 o2 o3 o4 o5 o6 o7 : FVec Ideal S64x128 .f32) : FVec Ideal S128x512 .bf16 :=
  truncf .bf16 (transpose S128x512 [1, 0] (concatenate S512x128 0 [⟨S64x128, o0⟩, ⟨S64x128, o1⟩, ⟨S64x128, o2⟩, ⟨S64x128, o3⟩, ⟨S64x128, o4⟩, ⟨S64x128, o5⟩, ⟨S64x128, o6⟩, ⟨S64x128, o7⟩] concatenates_S64x128_S64x128_S64x128_S64x128_S64x128_S64x128_S64x128_S64x128_S512x128_d0) transposes_S512x128_p1_0_S128x512) bitsLt_bf16_f32

/-- Which of the 640 keys from row `off` on are inside the sequence: all of them when the point `w` is not a sequence's first, else those from row 512 on. -/
def inside (off w : BitVec 32) : IVec S640x128 1 :=
  ori (broadcast S640x128 (Scalar.cmpi .sgt w 0#32)) (cmpi .sge (addi (iota .tc S640x128 32 [0] iota_S640x128_d0_w32) (broadcast S640x128 off)) (broadcast S640x128 512#32))

/-- The scaled queries. -/
def scaled (q : Vec Ideal S512x512 .bf16) : FVec Ideal S512x512 .bf16 := mulf q (broadcast S512x512 (Scalar.ofBits (F := Ideal) .bf16 0x3E00#16))

/-- What is stored at row 0 of a block is the eight heads' results. -/
theorem store0 (w : BitVec 32) (q : Vec Ideal S512x512 .bf16) (k0 k1 k2 k3 k4 k5 k6 k7 : Vec Ideal S1x640x64 .bf16) (b0 b1 b2 b3 b4 b5 b6 b7 : Vec Ideal S1x640x128 .f32) (v0 v1 v2 v3 v4 v5 v6 v7 : Vec Ideal S1x80x640 .bf16) :
    k0_pay86 (k0_pay77 (k0_pay71 (k0_pay62 (k0_pay47 (w)) (k0_pay52 (k0_pay46 q) k3) b3)) v3) (k0_pay78 (k0_pay72 (k0_pay63 (k0_pay47 (w)) (k0_pay53 (k0_pay46 q) k4) b4)) v4) (k0_pay79 (k0_pay73 (k0_pay64 (k0_pay47 (w)) (k0_pay54 (k0_pay46 q) k5) b5)) v5) (k0_pay80 (k0_pay74 (k0_pay65 (k0_pay47 (w)) (k0_pay55 (k0_pay46 q) k6) b6)) v6) (k0_pay81 (k0_pay75 (k0_pay66 (k0_pay47 (w)) (k0_pay56 (k0_pay46 q) k7) b7)) v7) (k0_pay82 (k0_pay76 (k0_pay57 (k0_pay47 (w)) (k0_pay48 q k0) b0) (k0_pay67 (k0_pay57 (k0_pay47 (w)) (k0_pay48 q k0) b0)) v0)) (k0_pay83 (k0_pay69 (k0_pay60 (k0_pay47 (w)) (k0_pay58 (k0_pay49 q k1) b1) k0_pay59) (k0_pay68 (k0_pay47 (w)) (k0_pay58 (k0_pay49 q k1) b1) k0_pay59)) v1) (k0_pay84 (k0_pay70 (k0_pay61 (k0_pay47 (w)) (k0_pay51 (k0_pay46 q) (k0_pay50 k2)) b2)) v2) (k0_pay85 (k0_pay71 (k0_pay62 (k0_pay47 (w)) (k0_pay52 (k0_pay46 q) k3) b3)) v3)
      = tile (headOut (inside 0#32 w) k0 (extractStridedSlice S128x64 ![0, 0] (scaled q) slices_S512x512_o0_0_S128x64) b0 v0) (headOut (inside 0#32 w) k1 (extractStridedSlice S128x64 ![0, 64] (scaled q) slices_S512x512_o0_64_S128x64) b1 v1) (headOut (inside 0#32 w) k2 (extractStridedSlice S128x64 ![0, 128] (scaled q) slices_S512x512_o0_128_S128x64) b2 v2) (headOut (inside 0#32 w) k3 (extractStridedSlice S128x64 ![0, 192] (scaled q) slices_S512x512_o0_192_S128x64) b3 v3) (headOut (inside 0#32 w) k4 (extractStridedSlice S128x64 ![0, 256] (scaled q) slices_S512x512_o0_256_S128x64) b4 v4) (headOut (inside 0#32 w) k5 (extractStridedSlice S128x64 ![0, 320] (scaled q) slices_S512x512_o0_320_S128x64) b5 v5) (headOut (inside 0#32 w) k6 (extractStridedSlice S128x64 ![0, 384] (scaled q) slices_S512x512_o0_384_S128x64) b6 v6) (headOut (inside 0#32 w) k7 (extractStridedSlice S128x64 ![0, 448] (scaled q) slices_S512x512_o0_448_S128x64) b7 v7) := by
  rfl

/-- What is stored at row 128 of a block is the eight heads' results. -/
theorem store128 (w : BitVec 32) (q : Vec Ideal S512x512 .bf16) (k0 k1 k2 k3 k4 k5 k6 k7 : Vec Ideal S1x640x64 .bf16) (b0 b1 b2 b3 b4 b5 b6 b7 : Vec Ideal S1x640x128 .f32) (v0 v1 v2 v3 v4 v5 v6 v7 : Vec Ideal S1x80x640 .bf16) :
    k0_pay124 (k0_pay116 (k0_pay110 (k0_pay100 (k0_pay87 (w) (iota .tc S640x128 32 [0] iota_S640x128_d0_w32)) (k0_pay92 (k0_pay46 q) k4) b4)) v4) (k0_pay117 (k0_pay111 (k0_pay101 (k0_pay87 (w) (iota .tc S640x128 32 [0] iota_S640x128_d0_w32)) (k0_pay93 (k0_pay46 q) k5) b5)) v5) (k0_pay118 (k0_pay112 (k0_pay102 (k0_pay87 (w) (iota .tc S640x128 32 [0] iota_S640x128_d0_w32)) (k0_pay94 (k0_pay46 q) k6) b6)) v6) (k0_pay119 (k0_pay113 (k0_pay103 (k0_pay87 (w) (iota .tc S640x128 32 [0] iota_S640x128_d0_w32)) (k0_pay95 (k0_pay46 q) k7) b7)) v7) (k0_pay120 (k0_pay114 (k0_pay96 (k0_pay87 (w) (iota .tc S640x128 32 [0] iota_S640x128_d0_w32)) (k0_pay88 (k0_pay46 q) k0) b0) (k0_pay104 (k0_pay96 (k0_pay87 (w) (iota .tc S640x128 32 [0] iota_S640x128_d0_w32)) (k0_pay88 (k0_pay46 q) k0) b0)) v0)) (k0_pay121 (k0_pay107 (k0_pay97 (k0_pay87 (w) (iota .tc S640x128 32 [0] iota_S640x128_d0_w32)) (k0_pay89 (k0_pay46 q) k1) b1) (k0_pay105 (k0_pay97 (k0_pay87 (w) (iota .tc S640x128 32 [0] iota_S640x128_d0_w32)) (k0_pay89 (k0_pay46 q) k1) b1))) (k0_pay115 v1)) (k0_pay122 (k0_pay108 (k0_pay98 (k0_pay87 (w) (iota .tc S640x128 32 [0] iota_S640x128_d0_w32)) (k0_pay90 (k0_pay46 q) k2) b2) (k0_pay106 (k0_pay87 (w) (iota .tc S640x128 32 [0] iota_S640x128_d0_w32)) (k0_pay90 (k0_pay46 q) k2) b2)) v2) (k0_pay123 (k0_pay109 (k0_pay99 (k0_pay87 (w) (iota .tc S640x128 32 [0] iota_S640x128_d0_w32)) (k0_pay91 (k0_pay46 q) k3) b3)) v3)
      = tile (headOut (inside 128#32 w) k0 (extractStridedSlice S128x64 ![128, 0] (scaled q) slices_S512x512_o128_0_S128x64) b0 v0) (headOut (inside 128#32 w) k1 (extractStridedSlice S128x64 ![128, 64] (scaled q) slices_S512x512_o128_64_S128x64) b1 v1) (headOut (inside 128#32 w) k2 (extractStridedSlice S128x64 ![128, 128] (scaled q) slices_S512x512_o128_128_S128x64) b2 v2) (headOut (inside 128#32 w) k3 (extractStridedSlice S128x64 ![128, 192] (scaled q) slices_S512x512_o128_192_S128x64) b3 v3) (headOut (inside 128#32 w) k4 (extractStridedSlice S128x64 ![128, 256] (scaled q) slices_S512x512_o128_256_S128x64) b4 v4) (headOut (inside 128#32 w) k5 (extractStridedSlice S128x64 ![128, 320] (scaled q) slices_S512x512_o128_320_S128x64) b5 v5) (headOut (inside 128#32 w) k6 (extractStridedSlice S128x64 ![128, 384] (scaled q) slices_S512x512_o128_384_S128x64) b6 v6) (headOut (inside 128#32 w) k7 (extractStridedSlice S128x64 ![128, 448] (scaled q) slices_S512x512_o128_448_S128x64) b7 v7) := by
  rfl

/-- What is stored at row 256 of a block is the eight heads' results. -/
theorem store256 (w : BitVec 32) (q : Vec Ideal S512x512 .bf16) (k0 k1 k2 k3 k4 k5 k6 k7 : Vec Ideal S1x640x64 .bf16) (b0 b1 b2 b3 b4 b5 b6 b7 : Vec Ideal S1x640x128 .f32) (v0 v1 v2 v3 v4 v5 v6 v7 : Vec Ideal S1x80x640 .bf16) :
    k0_pay165 (k0_pay156 (k0_pay150 (k0_pay140 (k0_pay125 (w) (iota .tc S640x128 32 [0] iota_S640x128_d0_w32)) (k0_pay131 (k0_pay46 q) k5) b5)) v5) (k0_pay157 (k0_pay151 (k0_pay141 (k0_pay125 (w) (iota .tc S640x128 32 [0] iota_S640x128_d0_w32)) (k0_pay132 (k0_pay46 q) k6) b6)) v6) (k0_pay158 (k0_pay152 (k0_pay142 (k0_pay125 (w) (iota .tc S640x128 32 [0] iota_S640x128_d0_w32)) (k0_pay133 (k0_pay46 q) k7) b7)) v7) (k0_pay159 (k0_pay153 (k0_pay134 (k0_pay125 (w) (iota .tc S640x128 32 [0] iota_S640x128_d0_w32)) (k0_pay126 (k0_pay46 q) k0) b0) (k0_pay143 (k0_pay134 (k0_pay125 (w) (iota .tc S640x128 32 [0] iota_S640x128_d0_w32)) (k0_pay126 (k0_pay46 q) k0) b0)) v0)) (k0_pay160 (k0_pay154 (k0_pay135 (k0_pay125 (w) (iota .tc S640x128 32 [0] iota_S640x128_d0_w32)) (k0_pay127 (k0_pay46 q) k1) b1) (k0_pay144 (k0_pay135 (k0_pay125 (w) (iota .tc S640x128 32 [0] iota_S640x128_d0_w32)) (k0_pay127 (k0_pay46 q) k1) b1)) v1)) (k0_pay161 (k0_pay147 (k0_pay137 (k0_pay125 (w) (iota .tc S640x128 32 [0] iota_S640x128_d0_w32)) (k0_pay128 (k0_pay46 q) k2) (k0_pay136 b2)) (k0_pay145 (k0_pay125 (w) (iota .tc S640x128 32 [0] iota_S640x128_d0_w32)) (k0_pay128 (k0_pay46 q) k2) (k0_pay136 b2))) v2) (k0_pay162 (k0_pay148 (k0_pay138 (k0_pay125 (w) (iota .tc S640x128 32 [0] iota_S640x128_d0_w32)) (k0_pay129 (k0_pay46 q) k3) b3) (k0_pay146 (k0_pay125 (w) (iota .tc S640x128 32 [0] iota_S640x128_d0_w32)) (k0_pay129 (k0_pay46 q) k3) b3)) v3) (k0_pay163 (k0_pay149 (k0_pay139 (k0_pay125 (w) (iota .tc S640x128 32 [0] iota_S640x128_d0_w32)) (k0_pay130 (k0_pay46 q) k4) b4)) v4) (k0_pay164 (k0_pay149 (k0_pay139 (k0_pay125 (w) (iota .tc S640x128 32 [0] iota_S640x128_d0_w32)) (k0_pay130 (k0_pay46 q) k4) b4)) v4)
      = tile (headOut (inside 256#32 w) k0 (extractStridedSlice S128x64 ![256, 0] (scaled q) slices_S512x512_o256_0_S128x64) b0 v0) (headOut (inside 256#32 w) k1 (extractStridedSlice S128x64 ![256, 64] (scaled q) slices_S512x512_o256_64_S128x64) b1 v1) (headOut (inside 256#32 w) k2 (extractStridedSlice S128x64 ![256, 128] (scaled q) slices_S512x512_o256_128_S128x64) b2 v2) (headOut (inside 256#32 w) k3 (extractStridedSlice S128x64 ![256, 192] (scaled q) slices_S512x512_o256_192_S128x64) b3 v3) (headOut (inside 256#32 w) k4 (extractStridedSlice S128x64 ![256, 256] (scaled q) slices_S512x512_o256_256_S128x64) b4 v4) (headOut (inside 256#32 w) k5 (extractStridedSlice S128x64 ![256, 320] (scaled q) slices_S512x512_o256_320_S128x64) b5 v5) (headOut (inside 256#32 w) k6 (extractStridedSlice S128x64 ![256, 384] (scaled q) slices_S512x512_o256_384_S128x64) b6 v6) (headOut (inside 256#32 w) k7 (extractStridedSlice S128x64 ![256, 448] (scaled q) slices_S512x512_o256_448_S128x64) b7 v7) := by
  rfl

/-- What is stored at row 384 of a block is the eight heads' results. -/
theorem store384 (w : BitVec 32) (q : Vec Ideal S512x512 .bf16) (k0 k1 k2 k3 k4 k5 k6 k7 : Vec Ideal S1x640x64 .bf16) (b0 b1 b2 b3 b4 b5 b6 b7 : Vec Ideal S1x640x128 .f32) (v0 v1 v2 v3 v4 v5 v6 v7 : Vec Ideal S1x80x640 .bf16) :
    k0_pay1 (k0_pay201 (k0_pay196 (k0_pay185 (k0_pay166 (w) (iota .tc S640x128 32 [0] iota_S640x128_d0_w32)) (k0_pay175 (k0_pay46 q) k6) b6)) v6) (k0_pay202 (k0_pay197 (k0_pay186 (k0_pay166 (w) (iota .tc S640x128 32 [0] iota_S640x128_d0_w32)) (k0_pay176 (k0_pay46 q) k7) b7)) v7) (k0_pay203 (k0_pay198 (k0_pay177 (k0_pay166 (w) (iota .tc S640x128 32 [0] iota_S640x128_d0_w32)) (k0_pay167 (k0_pay46 q) k0) b0) (k0_pay187 (k0_pay177 (k0_pay166 (w) (iota .tc S640x128 32 [0] iota_S640x128_d0_w32)) (k0_pay167 (k0_pay46 q) k0) b0)) v0)) (k0_pay204 (k0_pay199 (k0_pay178 (k0_pay166 (w) (iota .tc S640x128 32 [0] iota_S640x128_d0_w32)) (k0_pay168 (k0_pay46 q) k1) b1) (k0_pay188 (k0_pay178 (k0_pay166 (w) (iota .tc S640x128 32 [0] iota_S640x128_d0_w32)) (k0_pay168 (k0_pay46 q) k1) b1)) v1)) (k0_pay205 (k0_pay192 (k0_pay181 (k0_pay166 (w) (iota .tc S640x128 32 [0] iota_S640x128_d0_w32)) (k0_pay179 (k0_pay169 (k0_pay46 q) k2) b2) k0_pay180) (k0_pay189 (k0_pay166 (w) (iota .tc S640x128 32 [0] iota_S640x128_d0_w32)) (k0_pay179 (k0_pay169 (k0_pay46 q) k2) b2) k0_pay180)) v2) (k0_pay206 (k0_pay193 (k0_pay182 (k0_pay166 (w) (iota .tc S640x128 32 [0] iota_S640x128_d0_w32)) (k0_pay172 (k0_pay170 k3) (k0_pay171 (k0_pay46 q))) b3) (k0_pay190 (k0_pay166 (w) (iota .tc S640x128 32 [0] iota_S640x128_d0_w32)) (k0_pay172 (k0_pay170 k3) (k0_pay171 (k0_pay46 q))) b3)) v3) (k0_pay207 (k0_pay194 (k0_pay183 (k0_pay166 (w) (iota .tc S640x128 32 [0] iota_S640x128_d0_w32)) (k0_pay173 (k0_pay46 q) k4) b4) (k0_pay191 (k0_pay166 (w) (iota .tc S640x128 32 [0] iota_S640x128_d0_w32)) (k0_pay173 (k0_pay46 q) k4) b4)) v4) (k0_pay208 (k0_pay195 (k0_pay184 (k0_pay166 (w) (iota .tc S640x128 32 [0] iota_S640x128_d0_w32)) (k0_pay174 (k0_pay46 q) k5) b5)) v5) (k0_pay209 (k0_pay195 (k0_pay184 (k0_pay166 (w) (iota .tc S640x128 32 [0] iota_S640x128_d0_w32)) (k0_pay174 (k0_pay46 q) k5) b5)) v5)
      = tile (headOut (inside 384#32 w) k0 (extractStridedSlice S128x64 ![384, 0] (scaled q) slices_S512x512_o384_0_S128x64) b0 v0) (headOut (inside 384#32 w) k1 (extractStridedSlice S128x64 ![384, 64] (scaled q) slices_S512x512_o384_64_S128x64) b1 v1) (headOut (inside 384#32 w) k2 (extractStridedSlice S128x64 ![384, 128] (scaled q) slices_S512x512_o384_128_S128x64) b2 v2) (headOut (inside 384#32 w) k3 (extractStridedSlice S128x64 ![384, 192] (scaled q) slices_S512x512_o384_192_S128x64) b3 v3) (headOut (inside 384#32 w) k4 (extractStridedSlice S128x64 ![384, 256] (scaled q) slices_S512x512_o384_256_S128x64) b4 v4) (headOut (inside 384#32 w) k5 (extractStridedSlice S128x64 ![384, 320] (scaled q) slices_S512x512_o384_320_S128x64) b5 v5) (headOut (inside 384#32 w) k6 (extractStridedSlice S128x64 ![384, 384] (scaled q) slices_S512x512_o384_384_S128x64) b6 v6) (headOut (inside 384#32 w) k7 (extractStridedSlice S128x64 ![384, 448] (scaled q) slices_S512x512_o384_448_S128x64) b7 v7) := by
  rfl

theorem mask_bot : Named.named (F := Ideal) κ "mask" (φ := .f32) 0xF149F2CA#32 = ⊥ := rfl

theorem bot_f32 : Ideal.ofBits .f32 0xFF800000#32 = ⊥ := by simp [Ideal.ofBits, Ideal.ieee]

theorem eighth_bf16 : Ideal.ofBits .bf16 0x3E00#16 = ((1 / 8 : ℝ) : EReal) := by
  simp [Ideal.ofBits, Ideal.ieee]; rw [← EReal.coe_mul]; norm_num

/-- A score at an index: key against query plus bias, or minus infinity where the key is outside the sequence. -/
theorem headScores_at (valid : IVec S640x128 1) (k : Vec Ideal S1x640x64 .bf16) (q : FVec Ideal S128x64 .bf16) (b : Vec Ideal S1x640x128 .f32) (i : Fin 640) (a : Fin 128) :
    headScores valid k q b (ix2 i a) = Scalar.select (valid (ix2 i a)) ((∑ x : Fin 64, k (ix3 0 i x) * q (ix2 a x)) + b (ix3 0 i a) : EReal) (⊥ : EReal) := by
  pointwise [headScores]
  rfl

/-- An exponential at an index. -/
theorem headExp_at (s : FVec Ideal S640x128 .f32) (i : Fin 640) (a : Fin 128) :
    headExp s (ix2 i a) = Ideal.exp (s (ix2 i a) - Finset.univ.sup fun x => s (ix2 x a)) := by
  rw [← Softmax.fold_max_eq_sup, ← bot_f32]
  pointwise [headExp]

theorem headAcc_at (v : Vec Ideal S1x80x640 .bf16) (s : FVec Ideal S640x128 .bf16) (d : Fin 80) (a : Fin 128) :
    headAcc v s (ix2 d a) = ∑ x : Fin 640, (v (ix3 0 d x) * s (ix2 x a) : EReal) := by
  pointwise [headAcc]

theorem headDiv_at (v : FVec Ideal S80x128 .f32) (d : Fin 64) (a : Fin 128) :
    headDiv v (ix2 d a) = Ideal.div (v (ix2 ⟨d.val, by omega⟩ a)) (v (ix2 64 a)) := by
  pointwise [headDiv]

/-- One head's result at an index. -/
theorem headOut_at (valid : IVec S640x128 1) (k : Vec Ideal S1x640x64 .bf16) (q : FVec Ideal S128x64 .bf16) (b : Vec Ideal S1x640x128 .f32) (v : Vec Ideal S1x80x640 .bf16) (d : Fin 64) (a : Fin 128)
    (s : Fin 640 → EReal) (hs : ∀ i, s i = Scalar.select (valid (ix2 i a)) ((∑ x : Fin 64, k (ix3 0 i x) * q (ix2 a x)) + b (ix3 0 i a) : EReal) (⊥ : EReal)) :
    headOut valid k q b v (ix2 d a) = Ideal.div (∑ i, (v (ix3 0 ⟨d.val, by omega⟩ i) : EReal) * Ideal.exp (s i - Finset.univ.sup s)) (∑ i, (v (ix3 0 64 i) : EReal) * Ideal.exp (s i - Finset.univ.sup s)) := by
  have e : s = fun i => headScores valid k q b (ix2 i a) := funext fun i => (hs i).trans (headScores_at valid k q b i a).symm
  subst e
  unfold headOut
  rw [headDiv_at, headAcc_at, headAcc_at]
  simp only [headExp_at]

/-- A store at an index is one head's result, `o h`. -/
theorem tile_at (o : Fin 8 → FVec Ideal S64x128 .f32) (a : Fin 128) (e : Fin 512) :
    tile (o 0) (o 1) (o 2) (o 3) (o 4) (o 5) (o 6) (o 7) (ix2 a e) = o ⟨e.val / 64, by omega⟩ (ix2 ⟨e.val % 64, by omega⟩ a) := by
  have hk : ∀ (h : Fin 8) (d : Fin 64), h.val = e.val / 64 → d.val = e.val % 64 → o h (ix2 d a) = o ⟨e.val / 64, by omega⟩ (ix2 ⟨e.val % 64, by omega⟩ a) := by
    intro h d h1 h2
    have e1 : h = ⟨e.val / 64, by omega⟩ := Fin.ext h1
    have e2 : d = ⟨e.val % 64, by omega⟩ := Fin.ext h2
    rw [e1, e2]
  pointwise [tile]
  have := e.isLt
  split_ifs
  all_goals first
    | exact hk 0 _ (by show (0 : ℕ) = _; omega) (by show _ = _; dsimp only; omega)
    | exact hk 1 _ (by show (1 : ℕ) = _; omega) (by show _ = _; dsimp only; omega)
    | exact hk 2 _ (by show (2 : ℕ) = _; omega) (by show _ = _; dsimp only; omega)
    | exact hk 3 _ (by show (3 : ℕ) = _; omega) (by show _ = _; dsimp only; omega)
    | exact hk 4 _ (by show (4 : ℕ) = _; omega) (by show _ = _; dsimp only; omega)
    | exact hk 5 _ (by show (5 : ℕ) = _; omega) (by show _ = _; dsimp only; omega)
    | exact hk 6 _ (by show (6 : ℕ) = _; omega) (by show _ = _; dsimp only; omega)
    | exact hk 7 _ (by show (7 : ℕ) = _; omega) (by show _ = _; dsimp only; omega)

theorem first_fact : ∀ n : Fin 8, Scalar.cmpi CmpIPredicate.sgt (BitVec.ofNat 32 n.val) 0#32 = (if 0 < n.val then 1#1 else 0#1) := by decide +kernel

theorem row_fact : ∀ n : Fin 1024, IntOp.cmpi CmpIPredicate.sge (BitVec.ofNat 32 n.val) 512#32 = (if 512 ≤ n.val then 1#1 else 0#1) := by decide +kernel

/-- Whether a key is inside the sequence. -/
theorem inside_at (off : ℕ) (ho : off ≤ 384) (n : Fin 8) (i : Fin 640) (a : Fin 128) :
    inside (BitVec.ofNat 32 off) (BitVec.ofNat 32 n.val) (ix2 i a) = if 0 < n.val ∨ 512 ≤ off + i.val then 1#1 else 0#1 := by
  have h : inside (BitVec.ofNat 32 off) (BitVec.ofNat 32 n.val) (ix2 i a) = IntOp.ori (Scalar.cmpi CmpIPredicate.sgt (BitVec.ofNat 32 n.val) 0#32)
      (IntOp.cmpi CmpIPredicate.sge (BitVec.ofNat 32 (off + i.val)) 512#32) := by
    have : BitVec.ofNat 32 (off + i.val) = IntOp.addi (BitVec.ofNat 32 i.val) (BitVec.ofNat 32 off) := by
      rw [add_comm, BitVec.ofNat_add]; rfl
    rw [this]
    pointwise [inside]
  rw [h, first_fact, row_fact ⟨off + i.val, by omega⟩]
  by_cases h1 : 0 < n.val <;> by_cases h2 : 512 ≤ off + i.val <;> simp [h1, h2, IntOp.ori]

theorem scaled_at (q : Vec Ideal S512x512 .bf16) (r c : Fin 512) : scaled q (ix2 r c) = (q (ix2 r c) * ((1 / 8 : ℝ) : EReal) : EReal) := by
  rw [← eighth_bf16]
  pointwise [scaled]

end Cert.KernelIdeal.Band

end
-- ==== Proof.BandScratch.lean ====
module

public import proofs.«01_k».proof.Proof.Gen.KernelIdeal.Frame
public import proofs.«01_k».proof.Proof.BandTile
public import Idealize.ShloMosaic.Lib.Pipeline.ValueKit
public import Idealize.ShloMosaic.Lib.Pipeline.ReadBack

@[expose] public section

set_option maxRecDepth 16384

noncomputable section

namespace Cert.KernelIdeal.Band

open Cert.KernelIdeal Cert.KernelIdeal.Gen Idealize.ShloMosaic Idealize.ShloMosaic.TcCoe Idealize.SL.Sem

/-- An entry of a block by its row and column, zero outside the block. -/
def q2 (x : Vec Ideal S512x512 .bf16) (r c : ℕ) : EReal := if h : r < 512 ∧ c < 512 then x (ix2 ⟨r, h.1⟩ ⟨c, h.2⟩) else 0

theorem q2_eq (x : Vec Ideal S512x512 .bf16) (r c r' c' : ℕ) (hr : r < 512) (hc : c < 512) (e : r = r') (e' : c = c') :
    (x (ix2 (⟨r, hr⟩ : Fin 512) (⟨c, hc⟩ : Fin 512)) : EReal) = q2 x r' c' := by
  subst e e'; unfold q2; rw [dif_pos (And.intro hr hc)]

/-- A key: head `h`, row `r` of the two blocks one after the other, column `e` of the head. -/
def keyAt (x1 x2 : Vec Ideal S512x512 .bf16) (h r e : ℕ) : EReal := if r < 512 then q2 x1 r (64 * h + e) else q2 x2 (r - 512) (64 * h + e)

/-- A value, with a row of ones and rows of zeros below the head's 64 columns. -/
def valAt (x3 x4 : Vec Ideal S512x512 .bf16) (h d r : ℕ) : EReal :=
  if d < 64 then (if r < 512 then q2 x3 r (64 * h + d) else q2 x4 (r - 512) (64 * h + d)) else if d = 64 then 1 else 0

theorem one_bf16 : Ideal.ofBits .bf16 0x3F80#16 = 1 := by
  simp [Ideal.ofBits, Ideal.ieee]
  rw [← EReal.coe_mul]
  norm_num

theorem zero_bf16 : Ideal.ofBits .bf16 0x0000#16 = 0 := by
  simp [Ideal.ofBits, Ideal.ieee]

/-- The key scratch after its sixteen stores. -/
theorem keys_at (c : Dev nD) (t : Fin cfg0.N) (x0 x1 x2 x3 x4 : Vec Ideal S512x512 .bf16) (x5 : Vec Ideal S8x640x128 .f32) (y : S8x1024x64.Idx) :
    View.canon (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5).2.1 y = keyAt x1 x2 (y 0).val (y 1).val (y 2).val := by
  frame_out
  canon_tiles x h
  all_goals
    pointwise [k0_pay4,k0_pay6,k0_pay8,k0_pay10,k0_pay12,k0_pay14,k0_pay16,k0_pay18,k0_pay21,k0_pay23,k0_pay25,k0_pay27,k0_pay29,k0_pay31,k0_pay33,k0_pay36]
    unfold keyAt
    first | rw [if_pos (by omega)] | rw [if_neg (by omega)]
    exact q2_eq _ _ _ _ _ _ _ (by omega) (by omega)

theorem ones_row (n : ℕ) (hn : n < 16) : (Scalar.select (IntOp.cmpi CmpIPredicate.eq (BitVec.ofNat 32 n) 0#32) 1 0 : EReal) = if n = 0 then 1 else 0 := by
  have : ∀ k : Fin 16, IntOp.cmpi CmpIPredicate.eq (BitVec.ofNat 32 k.val) 0#32 = if k.val = 0 then 1#1 else 0#1 := by decide +kernel
  rw [this ⟨n, hn⟩]
  by_cases e : n = 0 <;> simp [e, Scalar.select]

/-- The value scratch after its stores: heads' columns transposed, then a row of ones. -/
theorem vals_at (c : Dev nD) (t : Fin cfg0.N) (x0 x1 x2 x3 x4 : Vec Ideal S512x512 .bf16) (x5 : Vec Ideal S8x640x128 .f32) (y : S8x80x1024.Idx) :
    View.canon (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5).2.2.1 y = valAt x3 x4 (y 0).val (y 1).val (y 2).val := by
  have a0 : (y 0).val < 8 := (y 0).isLt
  have a1 : (y 1).val < 80 := (y 1).isLt
  have a2 : (y 2).val < 1024 := (y 2).isLt
  frame_out
  canon_tiles x h using (by
    have e : (y 0).val = 0 ∨ (y 0).val = 1 ∨ (y 0).val = 2 ∨ (y 0).val = 3 ∨ (y 0).val = 4 ∨ (y 0).val = 5 ∨ (y 0).val = 6 ∨ (y 0).val = 7 := by omega
    clear a0
    simp only [List.exists_mem_cons_iff, List.not_mem_nil, false_and, exists_false, or_false, Rect.mem_set_unit, Fin.forall_fin_succ]
    rcases e with e | e | e | e | e | e | e | e <;> simp [e] <;> omega
)
  all_goals pointwise [k0_pay2,k0_pay3,k0_pay5,k0_pay7,k0_pay9,k0_pay11,k0_pay13,k0_pay15,k0_pay17,k0_pay19,k0_pay20,k0_pay22,k0_pay24,k0_pay26,k0_pay28,k0_pay30,k0_pay32,k0_pay34,k0_pay35,k0_pay37,k0_pay38,k0_pay39,k0_pay40,k0_pay41,k0_pay42,k0_pay43,k0_pay44,k0_pay45]
  all_goals unfold valAt
  iterate 8
    rw [ones_row _ x1_lt, h1]
    by_cases e : (x 1).val = 0 <;> simp [e]
  all_goals
    rw [if_pos (by omega)]
    first | rw [if_pos (by omega)] | rw [if_neg (by omega)]
    exact q2_eq _ _ _ _ _ _ _ (by omega) (by omega)

end Cert.KernelIdeal.Band

end
-- ==== Proof.BandBlock.lean ====
module

public import proofs.«01_k».proof.Proof.Gen.KernelIdeal.Frame
public import proofs.«01_k».proof.Proof.BandScratch
public import Idealize.ShloMosaic.Lib.Pipeline.ValueKit
public import Idealize.ShloMosaic.Lib.Pipeline.ReadBack

@[expose] public section

set_option maxRecDepth 16384

noncomputable section

namespace Cert.KernelIdeal.Band

open Cert.KernelIdeal Cert.KernelIdeal.Gen Idealize.ShloMosaic Idealize.ShloMosaic.TcCoe Idealize.SL.Sem

/-- An entry of the bias array, zero outside. -/
def b3 (x : Vec Ideal S8x640x128 .f32) (h i a : ℕ) : EReal :=
  if e : h < 8 ∧ i < 640 ∧ a < 128 then x (ix3 ⟨h, e.1⟩ ⟨i, e.2.1⟩ ⟨a, e.2.2⟩) else 0

theorem b3_eq (x : Vec Ideal S8x640x128 .f32) (h i a h' i' a' : ℕ) (hh : h < 8) (hi : i < 640) (ha : a < 128) (e : h = h') (e' : i = i') (e'' : a = a') :
    (x (ix3 (⟨h, hh⟩ : Fin 8) (⟨i, hi⟩ : Fin 640) (⟨a, ha⟩ : Fin 128)) : EReal) = b3 x h' i' a' := by
  subst e e' e''; unfold b3; rw [dif_pos (And.intro hh (And.intro hi ha))]

/-- The score of window position `i` (an offset from the first row of the window) for query row `off + a` of the block, head `h`. -/
def tileScore (tb : ℕ) (x0 x1 x2 : Vec Ideal S512x512 .bf16) (x5 : Vec Ideal S8x640x128 .f32) (off h a : ℕ) (i : Fin 640) : EReal :=
  if 0 < tb ∨ 512 ≤ off + i.val then
    (∑ e : Fin 64, keyAt x1 x2 h (off + i.val) e.val * (q2 x0 (off + a) (64 * h + e.val) * ((1/8 : ℝ) : EReal))) + b3 x5 h i.val a
  else ⊥

/-- The weighted sum of values over the weighted sum of ones. -/
def quotient (s v w : Fin 640 → EReal) : EReal :=
  Ideal.div (∑ i, v i * Ideal.exp (s i - Finset.univ.sup s)) (∑ i, w i * Ideal.exp (s i - Finset.univ.sup s))

/-- The entry of the output block at row `off + a`, head `h`, column `d` of the head. -/
def blockAt (tb : ℕ) (x0 x1 x2 x3 x4 : Vec Ideal S512x512 .bf16) (x5 : Vec Ideal S8x640x128 .f32) (off h d a : ℕ) : EReal :=
  quotient (tileScore tb x0 x1 x2 x5 off h a) (fun i => valAt x3 x4 h d (off + i.val)) (fun i => valAt x3 x4 h 64 (off + i.val))

theorem head_at (tb off n : ℕ) (hoff : off ≤ 384) (htb : tb < 8) (x0 x1 x2 x3 x4 : Vec Ideal S512x512 .bf16) (x5 : Vec Ideal S8x640x128 .f32)
    (k : Vec Ideal S1x640x64 .bf16) (q : FVec Ideal S128x64 .bf16) (b : Vec Ideal S1x640x128 .f32) (v : Vec Ideal S1x80x640 .bf16)
    (hk : ∀ (i : Fin 640) (x : Fin 64), (k (ix3 0 i x) : EReal) = keyAt x1 x2 n (off + i.val) x.val)
    (hq : ∀ (a : Fin 128) (x : Fin 64), (q (ix2 a x) : EReal) = q2 x0 (off + a.val) (64 * n + x.val) * ((1/8 : ℝ) : EReal))
    (hb : ∀ (i : Fin 640) (a : Fin 128), (b (ix3 0 i a) : EReal) = b3 x5 n i.val a.val)
    (hv : ∀ (d : Fin 80) (i : Fin 640), (v (ix3 0 d i) : EReal) = valAt x3 x4 n d.val (off + i.val))
    (d : Fin 64) (a : Fin 128) :
    headOut (inside (BitVec.ofNat 32 off) (BitVec.ofNat 32 tb)) k q b v (ix2 d a) = blockAt tb x0 x1 x2 x3 x4 x5 off n d.val a.val := by
  rw [headOut_at _ k q b v d a (tileScore tb x0 x1 x2 x5 off n a.val) ?_]
  · simp only [hv]
    rfl
  · intro i
    rw [inside_at off hoff ⟨tb, htb⟩]
    unfold tileScore
    simp only [hk, hq, hb]
    split <;> rfl

theorem tile_eq (o0 o1 o2 o3 o4 o5 o6 o7 : FVec Ideal S64x128 .f32) (G : ℕ → ℕ → ℕ → EReal)
    (e0 : ∀ (d : Fin 64) (a : Fin 128), (o0 (ix2 d a) : EReal) = G 0 d.val a.val)
    (e1 : ∀ (d : Fin 64) (a : Fin 128), (o1 (ix2 d a) : EReal) = G 1 d.val a.val)
    (e2 : ∀ (d : Fin 64) (a : Fin 128), (o2 (ix2 d a) : EReal) = G 2 d.val a.val)
    (e3 : ∀ (d : Fin 64) (a : Fin 128), (o3 (ix2 d a) : EReal) = G 3 d.val a.val)
    (e4 : ∀ (d : Fin 64) (a : Fin 128), (o4 (ix2 d a) : EReal) = G 4 d.val a.val)
    (e5 : ∀ (d : Fin 64) (a : Fin 128), (o5 (ix2 d a) : EReal) = G 5 d.val a.val)
    (e6 : ∀ (d : Fin 64) (a : Fin 128), (o6 (ix2 d a) : EReal) = G 6 d.val a.val)
    (e7 : ∀ (d : Fin 64) (a : Fin 128), (o7 (ix2 d a) : EReal) = G 7 d.val a.val)
    (a : Fin 128) (e : Fin 512) :
    (tile o0 o1 o2 o3 o4 o5 o6 o7 (ix2 a e) : EReal) = G (e.val / 64) (e.val % 64) a.val := by
  have hall : ∀ (n : Fin 8) (d : Fin 64) (a : Fin 128), ((![o0, o1, o2, o3, o4, o5, o6, o7] n) (ix2 d a) : EReal) = G n.val d.val a.val := by
    intro n
    fin_cases n
    · exact e0
    · exact e1
    · exact e2
    · exact e3
    · exact e4
    · exact e5
    · exact e6
    · exact e7
  exact (tile_at ![o0, o1, o2, o3, o4, o5, o6, o7] a e).trans (hall _ _ _)

theorem read2 (o p : ℕ) (x : Vec Ideal S512x512 .bf16) (h : S512x512.Slices ![o, p] S128x64) (a : Fin 128) (k : Fin 64) :
    (extractStridedSlice S128x64 ![o, p] x h (ix2 a k) : EReal) = x (ix2 ⟨o + a.val, by have := h.2 0; simp at this; omega⟩ ⟨p + k.val, by have := h.2 1; simp at this; omega⟩) := by
  pointwise

theorem out_open (c : Dev nD) (t : Fin cfg0.N) (x0 x1 x2 x3 x4 : Vec Ideal S512x512 .bf16) (x5 : Vec Ideal S8x640x128 .f32) (y : S512x512.Idx)
    (hA : View.canon (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5).2.1 = fun y => keyAt x1 x2 (y 0).val (y 1).val (y 2).val)
    (hB : View.canon (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5).2.2.1 = fun y => valAt x3 x4 (y 0).val (y 1).val (y 2).val) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5 y
      = blockAt (grid0.coords t 1).val x0 x1 x2 x3 x4 x5 ((y 0).val / 128 * 128) ((y 1).val / 64) ((y 1).val % 64) ((y 0).val % 128) := by
  have htb : (grid0.coords t 1).val < 8 := (grid0.coords t 1).isLt
  frame_open
  frame_open at hA
  frame_open at hB
  simp only [View.readCov_eq_canon', hA, hB]
  clear hA hB
  simp (disch := decide) only [View.read_writes_junk_eq_canon, View.canon_cons_unit_lit', View.ld_unit_lit', View.readAt_eq_ld, Memref.IsWhole.read_unread]
  rw [store384, store256, store128, store0]
  canon_tiles x h
  · obtain ⟨a, e, rfl⟩ : ∃ (a : Fin 128) (e : Fin 512), x = ix2 a e := ⟨x 0, x 1, by funext k; fin_cases k <;> rfl⟩
    have ha := a.isLt
    have he := e.isLt
    have h0' : (y 0).val = 384 + a.val := h0
    have h1' : (y 1).val = e.val := h1
    rw [h0', h1', show (384 + a.val) / 128 * 128 = 384 by omega, show (384 + a.val) % 128 = a.val by omega]
    refine tile_eq _ _ _ _ _ _ _ _ (fun n d a => blockAt (grid0.coords t 1).val x0 x1 x2 x3 x4 x5 384 n d a) ?_ ?_ ?_ ?_ ?_ ?_ ?_ ?_ a e
    all_goals
      refine head_at _ 384 _ (by omega) htb x0 x1 x2 x3 x4 x5 _ _ _ _ ?_ ?_ ?_ ?_
      · intro i x
        show keyAt _ _ _ _ _ = _
        refine congr (congr (congr rfl ?_) ?_) ?_ <;> simp
      · intro a x
        refine (read2 _ _ _ _ _ _).trans ?_
        rw [scaled_at]
        exact congrArg (· * ((1/8 : ℝ) : EReal)) (q2_eq _ _ _ _ _ _ _ (by simp) (by simp))
      · intro i a
        pointwise
        exact b3_eq _ _ _ _ _ _ _ _ _ _ (by simp) (by simp) (by simp)
      · intro d i
        show valAt _ _ _ _ _ = _
        refine congr (congr (congr rfl ?_) ?_) ?_ <;> simp
  · obtain ⟨a, e, rfl⟩ : ∃ (a : Fin 128) (e : Fin 512), x = ix2 a e := ⟨x 0, x 1, by funext k; fin_cases k <;> rfl⟩
    have ha := a.isLt
    have he := e.isLt
    have h0' : (y 0).val = 256 + a.val := h0
    have h1' : (y 1).val = e.val := h1
    rw [h0', h1', show (256 + a.val) / 128 * 128 = 256 by omega, show (256 + a.val) % 128 = a.val by omega]
    refine tile_eq _ _ _ _ _ _ _ _ (fun n d a => blockAt (grid0.coords t 1).val x0 x1 x2 x3 x4 x5 256 n d a) ?_ ?_ ?_ ?_ ?_ ?_ ?_ ?_ a e
    all_goals
      refine head_at _ 256 _ (by omega) htb x0 x1 x2 x3 x4 x5 _ _ _ _ ?_ ?_ ?_ ?_
      · intro i x
        show keyAt _ _ _ _ _ = _
        refine congr (congr (congr rfl ?_) ?_) ?_ <;> simp
      · intro a x
        refine (read2 _ _ _ _ _ _).trans ?_
        rw [scaled_at]
        exact congrArg (· * ((1/8 : ℝ) : EReal)) (q2_eq _ _ _ _ _ _ _ (by simp) (by simp))
      · intro i a
        pointwise
        exact b3_eq _ _ _ _ _ _ _ _ _ _ (by simp) (by simp) (by simp)
      · intro d i
        show valAt _ _ _ _ _ = _
        refine congr (congr (congr rfl ?_) ?_) ?_ <;> simp
  · obtain ⟨a, e, rfl⟩ : ∃ (a : Fin 128) (e : Fin 512), x = ix2 a e := ⟨x 0, x 1, by funext k; fin_cases k <;> rfl⟩
    have ha := a.isLt
    have he := e.isLt
    have h0' : (y 0).val = 128 + a.val := h0
    have h1' : (y 1).val = e.val := h1
    rw [h0', h1', show (128 + a.val) / 128 * 128 = 128 by omega, show (128 + a.val) % 128 = a.val by omega]
    refine tile_eq _ _ _ _ _ _ _ _ (fun n d a => blockAt (grid0.coords t 1).val x0 x1 x2 x3 x4 x5 128 n d a) ?_ ?_ ?_ ?_ ?_ ?_ ?_ ?_ a e
    all_goals
      refine head_at _ 128 _ (by omega) htb x0 x1 x2 x3 x4 x5 _ _ _ _ ?_ ?_ ?_ ?_
      · intro i x
        show keyAt _ _ _ _ _ = _
        refine congr (congr (congr rfl ?_) ?_) ?_ <;> simp
      · intro a x
        refine (read2 _ _ _ _ _ _).trans ?_
        rw [scaled_at]
        exact congrArg (· * ((1/8 : ℝ) : EReal)) (q2_eq _ _ _ _ _ _ _ (by simp) (by simp))
      · intro i a
        pointwise
        exact b3_eq _ _ _ _ _ _ _ _ _ _ (by simp) (by simp) (by simp)
      · intro d i
        show valAt _ _ _ _ _ = _
        refine congr (congr (congr rfl ?_) ?_) ?_ <;> simp
  · obtain ⟨a, e, rfl⟩ : ∃ (a : Fin 128) (e : Fin 512), x = ix2 a e := ⟨x 0, x 1, by funext k; fin_cases k <;> rfl⟩
    have ha := a.isLt
    have he := e.isLt
    have h0' : (y 0).val = 0 + a.val := by simpa using h0
    have h1' : (y 1).val = e.val := h1
    rw [h0', h1', show (0 + a.val) / 128 * 128 = 0 by omega, show (0 + a.val) % 128 = a.val by omega]
    refine tile_eq _ _ _ _ _ _ _ _ (fun n d a => blockAt (grid0.coords t 1).val x0 x1 x2 x3 x4 x5 0 n d a) ?_ ?_ ?_ ?_ ?_ ?_ ?_ ?_ a e
    all_goals
      refine head_at _ 0 _ (by omega) htb x0 x1 x2 x3 x4 x5 _ _ _ _ ?_ ?_ ?_ ?_
      · intro i x
        show keyAt _ _ _ _ _ = _
        refine congr (congr (congr rfl ?_) ?_) ?_ <;> simp
      · intro a x
        refine (read2 _ _ _ _ _ _).trans ?_
        rw [scaled_at]
        exact congrArg (· * ((1/8 : ℝ) : EReal)) (q2_eq _ _ _ _ _ _ _ (by simp) (by simp))
      · intro i a
        pointwise
        exact b3_eq _ _ _ _ _ _ _ _ _ _ (by simp) (by simp) (by simp)
      · intro d i
        show valAt _ _ _ _ _ = _
        refine congr (congr (congr rfl ?_) ?_) ?_ <;> simp

/-- The output block of a grid point, entry by entry. -/
theorem out_at (c : Dev nD) (t : Fin cfg0.N) (x0 x1 x2 x3 x4 : Vec Ideal S512x512 .bf16) (x5 : Vec Ideal S8x640x128 .f32) (y : S512x512.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) x0 x1 x2 x3 x4 x5 y
      = blockAt (grid0.coords t 1).val x0 x1 x2 x3 x4 x5 ((y 0).val / 128 * 128) ((y 1).val / 64) ((y 1).val % 64) ((y 0).val % 128) :=
  out_open c t x0 x1 x2 x3 x4 x5 y (funext fun y => keys_at c t x0 x1 x2 x3 x4 x5 y) (funext fun y => vals_at c t x0 x1 x2 x3 x4 x5 y)

end Cert.KernelIdeal.Band

end
-- ==== Proof.BandReference.lean ====
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Band

open Cert.ReferenceIdeal Cert.ReferenceIdeal.Gen Idealize.ShloMosaic Idealize.ShloMosaic.TcCoe Idealize.SL.Sem

/-- The projection's columns of queries, keys and values, as batches of sequences. -/
def qkv (X : FVec Ideal S32768x6400 .bf16) : FVec Ideal S8x4096x1536 .f32 :=
  extractStridedSlice S8x4096x1536 ![0, 0, 1536] (shapeCast _ (extf .f32 X bitsLt_bf16_f32) shapeCasts_S32768x6400_S8x4096x6400) slices_S8x4096x6400_S8x4096x1536_0_0_1536

/-- The queries, chunk by chunk. -/
def queries (X : FVec Ideal S32768x6400 .bf16) : FVec Ideal S8x64x64x8x64 .f32 :=
  shapeCast _ (shapeCast S8x4096x8x64 (extractStridedSlice S8x4096x512 ![0, 0, 0] (qkv X) slices_S8x4096x1536_S8x4096x512_0_0_0) shapeCasts_S8x4096x512_S8x4096x8x64) shapeCasts_S8x4096x8x64_S8x64x64x8x64

/-- The keys with a block of zero rows before them. -/
def keysPad (X : FVec Ideal S32768x6400 .bf16) : FVec Ideal S8x4608x8x64 .f32 :=
  pad S8x4608x8x64 ![0, 512, 0, 0] ![0, 0, 0, 0] ![0, 0, 0, 0] (shapeCast S8x4096x8x64 (extractStridedSlice S8x4096x512 ![0, 0, 512] (qkv X) slices_S8x4096x1536_S8x4096x512_0_0_512) shapeCasts_S8x4096x512_S8x4096x8x64) (sitofp .f32 (constantI S_ 32 0#32)) pads_S8x4096x8x64_S8x4608x8x64_000_51200_000_000 h_S_

/-- The values with a block of zero rows before them. -/
def valuesPad (X : FVec Ideal S32768x6400 .bf16) : FVec Ideal S8x4608x8x64 .f32 :=
  pad S8x4608x8x64 ![0, 512, 0, 0] ![0, 0, 0, 0] ![0, 0, 0, 0] (shapeCast S8x4096x8x64 (extractStridedSlice S8x4096x512 ![0, 0, 1024] (qkv X) slices_S8x4096x1536_S8x4096x512_0_0_1024) shapeCasts_S8x4096x512_S8x4096x8x64) (sitofp .f32 (constantI S_ 32 0#32)) pads_S8x4096x8x64_S8x4608x8x64_000_51200_000_000 h_S_

/-- The row of the padded sequence that each place of each chunk's window names. -/
def rowWord : IVec S64x576 32 :=
  addi (broadcastInDim S64x576 ![0, 1] bcast_S64x1_S64x576_0_1 (muli (broadcastInDim S64x1 ![0] bcast_S64_S64x1_0 (iotaInDim S64 32 0)) (broadcastInDim S64x1 ![] bcast_S_S64x1 (constantI S_ 32 64#32)))) (broadcastInDim S64x576 ![0, 1] bcast_S1x576_S64x576_0_1 (broadcastInDim S1x576 ![1] bcast_S576_S1x576_1 (iotaInDim S576 32 0)))

/-- Those rows as the start indices of a gather. -/
def rowStart : IVec S64x576x1 32 :=
  broadcastInDim S64x576x1 ![0, 1] bcast_S64x576_S64x576x1_0_1 (select (cmpi .slt rowWord (broadcastInDim S64x576 ![] bcast_S_S64x576 (constantI S_ 32 0#32))) (addi rowWord (broadcastInDim S64x576 ![] bcast_S_S64x576 (constantI S_ 32 4608#32))) rowWord)

/-- The clipped distance of each query and window place of a chunk, shifted to start at zero. -/
def distWord : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

/-- Those distances as the start indices of a gather. -/
def distStart : IVec S64x576x1 32 :=
  broadcastInDim S64x576x1 ![0, 1] bcast_S64x576_S64x576x1_0_1 (select (cmpi .slt distWord (broadcastInDim S64x576 ![] bcast_S_S64x576 (constantI S_ 32 0#32))) (addi distWord (broadcastInDim S64x576 ![] bcast_S_S64x576 (constantI S_ 32 257#32))) distWord)

/-- The keys of each chunk's window. -/
def keysWin (X : FVec Ideal S32768x6400 .bf16) : FVec Ideal S8x64x576x8x64 .f32 :=
  Host.gather gather_S8x4608x8x64_S64x576x1_S8x64x576x8x64_034_1_n_n_1_2_81864 (keysPad X) rowStart

/-- The values of each chunk's window. -/
def valuesWin (X : FVec Ideal S32768x6400 .bf16) : FVec Ideal S8x64x576x8x64 .f32 :=
  Host.gather gather_S8x4608x8x64_S64x576x1_S8x64x576x8x64_034_1_n_n_1_2_81864 (valuesPad X) rowStart

/-- The bias of each head, query and window place. -/
def biasWin (B : FVec Ideal S8x257 .f32) : FVec Ideal S8x64x576 .f32 :=
  Host.gather gather_S8x257_S64x576x1_S8x64x576_0_1_n_n_1_2_81 B distStart

/-- The masked scores of the keys `K` and the bias `b`. -/
def scores (Q : FVec Ideal S8x64x64x8x64 .f32) (K : FVec Ideal S8x64x576x8x64 .f32) (b : FVec Ideal S8x64x576 .f32) (w : IVec S64x576 32) : FVec Ideal S8x64x8x64x576 .f32 :=
  select (broadcastInDim S8x64x8x64x576 ![0, 1, 2, 3, 4] bcast_S1x64x1x1x576_S8x64x8x64x576_0_1_2_3_4 (broadcastInDim S1x64x1x1x576 ![1, 4] bcast_S64x576_S1x64x1x1x576_1_4 (cmpi .sge (subi w (broadcastInDim S64x576 ![] bcast_S_S64x576 (constantI S_ 32 512#32))) (broadcastInDim S64x576 ![] bcast_S_S64x576 (constantI S_ 32 0#32)))))
    (addf (mulf (Host.dotGeneral dot_S8x64x64x8x64_S8x64x576x8x64_S8x64x8x64x576_4_4_2_2_013_013 none Q K) (broadcastInDim S8x64x8x64x576 ![] bcast_S_S8x64x8x64x576 (constant S_ .f32 0x3E000000#32)))
      (broadcastInDim S8x64x8x64x576 ![0, 1, 2, 3, 4] bcast_S1x1x8x64x576_S8x64x8x64x576_0_1_2_3_4 (broadcastInDim S1x1x8x64x576 ![2, 3, 4] bcast_S8x64x576_S1x1x8x64x576_2_3_4 b)))
    (broadcastInDim S8x64x8x64x576 ![] bcast_S_S8x64x8x64x576 (id (constant S_ .f32 0xFF800000#32)))

/-- The exponentials of the scores less their greatest. -/
def weights (s : FVec Ideal S8x64x8x64x576 .f32) : FVec Ideal S8x64x8x64x576 .f32 :=
  Host.exp (subf s (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 (maximumf (broadcastInDim S8x64x8x64 ![] bcast_S_S8x64x8x64 (constant S_ .f32 0xFF800000#32)) (Host.reduce FloatOps.maximumf s (constant S_ .f32 0xFF800000#32) reducesTo_S8x64x8x64x576_S8x64x8x64_d4 h_S_)))))

/-- The result of scores and values: the values under the normalised weights. -/
def attend (s : FVec Ideal S8x64x8x64x576 .f32) (V : FVec Ideal S8x64x576x8x64 .f32) : FVec Ideal S32768x512 .bf16 :=
  truncf .bf16 (shapeCast S32768x512 (transpose S8x64x64x8x64 [0, 1, 4, 2, 3] (Host.dotGeneral dot_S8x64x576x8x64_S8x64x8x64x576_S8x64x8x64x64_2_4_4_3_013_012 none V
    (Host.divf (weights s) (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3
      (Host.reduceAdd (weights s) (constant S_ .f32 0x00000000#32) reducesTo_S8x64x8x64x576_S8x64x8x64_d4 h_S_))))) transposes_S8x64x8x64x64_S8x64x64x8x64_0_1_4_2_3) shapeCasts_S8x64x64x8x64_S32768x512) bitsLt_bf16_f32

/-- The reference's result is the parts above put together. -/
theorem result_eq (m : (ℓ : Loc nD τ sig) → Buf (Elt Ideal) ℓ) (c : Dev nD) :
    Value.res_main_v79 m c = attend (scores (queries (m ((c.tc : Thread nD τ).loc main_arg0))) (keysWin (m ((c.tc : Thread nD τ).loc main_arg0)))
      (biasWin (m ((c.tc : Thread nD τ).loc main_arg1))) rowWord) (valuesWin (m ((c.tc : Thread nD τ).loc main_arg0))) := by
  unfold Value.res_main_v79; rfl

/-- An entry of the projection by its row and column, zero outside the array. -/
def px (X : FVec Ideal S32768x6400 .bf16) (r k : ℕ) : EReal := if h : r < 32768 ∧ k < 6400 then X (ix2 ⟨r, h.1⟩ ⟨k, h.2⟩) else 0

theorem px_eq (X : FVec Ideal S32768x6400 .bf16) (r k r' k' : ℕ) (hr : r < 32768) (hk : k < 6400) (e : r = r') (e' : k = k') :
    (X (ix2 (⟨r, hr⟩ : Fin 32768) (⟨k, hk⟩ : Fin 6400)) : EReal) = px X r' k' := by
  subst e e'; unfold px; rw [dif_pos (And.intro hr hk)]

/-- An entry of the bias table by its head and column, zero outside the table. -/
def bx (B : FVec Ideal S8x257 .f32) (h k : ℕ) : EReal := if hh : h < 8 ∧ k < 257 then B (ix2 ⟨h, hh.1⟩ ⟨k, hh.2⟩) else 0

theorem bx_eq (B : FVec Ideal S8x257 .f32) (h k h' k' : ℕ) (hh : h < 8) (hk : k < 257) (e : h = h') (e' : k = k') :
    (B (ix2 (⟨h, hh⟩ : Fin 8) (⟨k, hk⟩ : Fin 257)) : EReal) = bx B h' k' := by
  subst e e'; unfold bx; rw [dif_pos (And.intro hh hk)]

/-- The score of row `r`, head `h` at place `j` of its window: the scaled product of query and key with the bias of the clipped distance,
    and minus infinity before the sequence's start. -/
def score (X : FVec Ideal S32768x6400 .bf16) (B : FVec Ideal S8x257 .f32) (r h : ℕ) (j : Fin 576) : EReal :=
  if 512 ≤ r / 64 % 64 * 64 + j.val then
    (∑ e : Fin 64, px X r (1536 + h * 64 + e.val) * px X (r / 4096 * 4096 + (r / 64 % 64 * 64 + j.val - 512)) (2048 + h * 64 + e.val)) * ((1 / 8 : ℝ) : EReal)
      + bx B h (min 256 (640 + r % 64 - j.val))
  else ⊥

/-- The value of column `k` at place `j` of the window of row `r`: zero before the sequence's start. -/
def value (X : FVec Ideal S32768x6400 .bf16) (r k : ℕ) (j : Fin 576) : EReal :=
  if 512 ≤ r / 64 % 64 * 64 + j.val then px X (r / 4096 * 4096 + (r / 64 % 64 * 64 + j.val - 512)) (2560 + k) else 0

/-- The attention of one row and column: the softmax of the scores over the values. -/
def softmaxSum (s v : Fin 576 → EReal) : EReal :=
  ∑ j, Ideal.div (Ideal.exp (s j - Finset.univ.sup s)) (∑ k, Ideal.exp (s k - Finset.univ.sup s)) * v j

theorem bot_f32 : Ideal.ofBits .f32 0xFF800000#32 = ⊥ := by simp [Ideal.ofBits, Ideal.ieee]

theorem eighth_f32 : Ideal.ofBits .f32 0x3E000000#32 = ((1 / 8 : ℝ) : EReal) := by
  simp [Ideal.ofBits, Ideal.ieee]; rw [← EReal.coe_mul]; norm_num

theorem rowWord_fact : ∀ n : Fin 4608, (Scalar.select (IntOp.cmpi CmpIPredicate.slt (BitVec.ofNat 32 n.val) 0#32) (IntOp.addi (BitVec.ofNat 32 n.val) 4608#32) (BitVec.ofNat 32 n.val)).toInt = n.val ∧
    IntOp.cmpi CmpIPredicate.sge (IntOp.subi (BitVec.ofNat 32 n.val) 512#32) 0#32 = (if 512 ≤ n.val then 1#1 else 0#1) := by decide +kernel

theorem word_row (c j : ℕ) : IntOp.addi (IntOp.muli (BitVec.ofNat 32 c) 64#32) (BitVec.ofNat 32 j) = BitVec.ofNat 32 (c * 64 + j) := by
  show BitVec.ofNat 32 c * 64#32 + BitVec.ofNat 32 j = _
  rw [BitVec.ofNat_add, BitVec.ofNat_mul]

/-- The clipped distance as a word. -/
def clipWord (w : BitVec 32) : BitVec 32 :=
  IntOp.addi (IntOp.minsi (128#32) (IntOp.maxsi (4294967168#32) w)) 128#32

theorem clip_fact : ∀ n : Fin 640, (Scalar.select (IntOp.cmpi CmpIPredicate.slt (clipWord (BitVec.ofNat 32 n.val - 63#32)) 0#32) (IntOp.addi (clipWord (BitVec.ofNat 32 n.val - 63#32)) 257#32) (clipWord (BitVec.ofNat 32 n.val - 63#32))).toInt = ((min 256 (65 + n.val) : ℕ) : ℤ) := by decide +kernel

theorem word_dist (q : Fin 64) (j : Fin 576) : IntOp.subi (IntOp.addi (512#32) (BitVec.ofNat 32 q.val)) (BitVec.ofNat 32 j.val) = BitVec.ofNat 32 (575 + q.val - j.val) - 63#32 := by
  show (512#32 + BitVec.ofNat 32 q.val) - BitVec.ofNat 32 j.val = _
  have := q.isLt
  have := j.isLt
  bv_omega

theorem row_at (c : Fin 64) (j : Fin 576) : (rowStart (ix3 c j 0)).toInt = ((c.val * 64 + j.val : ℕ) : ℤ) := by
  have h : rowStart (ix3 c j 0) = Scalar.select (IntOp.cmpi CmpIPredicate.slt (BitVec.ofNat 32 (c.val * 64 + j.val)) 0#32) (IntOp.addi (BitVec.ofNat 32 (c.val * 64 + j.val)) 4608#32) (BitVec.ofNat 32 (c.val * 64 + j.val)) := by
    rw [← word_row]
    pointwise [rowStart, rowWord]
  rw [h]
  exact (rowWord_fact ⟨c.val * 64 + j.val, by omega⟩).1

theorem dist_at (q : Fin 64) (j : Fin 576) : (distStart (ix3 q j 0)).toInt = ((min 256 (640 + q.val - j.val) : ℕ) : ℤ) := by
  have h : distStart (ix3 q j 0) = Scalar.select (IntOp.cmpi CmpIPredicate.slt (clipWord (BitVec.ofNat 32 (575 + q.val - j.val) - 63#32)) 0#32) (IntOp.addi (clipWord (BitVec.ofNat 32 (575 + q.val - j.val) - 63#32)) 257#32) (clipWord (BitVec.ofNat 32 (575 + q.val - j.val) - 63#32)) := by
    rw [← word_dist]
    pointwise [distStart, distWord]
    rfl
  rw [h, clip_fact ⟨575 + q.val - j.val, by omega⟩]
  have : 65 + (575 + q.val - j.val) = 640 + q.val - j.val := by omega
  simp only [this]

theorem mask_at (c : Fin 64) (j : Fin 576) : IntOp.cmpi CmpIPredicate.sge (IntOp.subi (rowWord (ix2 c j)) 512#32) 0#32 = (if 512 ≤ c.val * 64 + j.val then 1#1 else 0#1) := by
  have h : rowWord (ix2 c j) = BitVec.ofNat 32 (c.val * 64 + j.val) := by
    rw [← word_row]
    pointwise [rowWord]
  rw [h]
  exact (rowWord_fact ⟨c.val * 64 + j.val, by omega⟩).2

/-- A gather of rows at an index whose start is in range. -/
theorem rows_at (P : FVec Ideal S8x4608x8x64 .f32) (i : IVec S64x576x1 32) (b0 : Fin 8) (c : Fin 64) (j : Fin 576) (h : Fin 8) (d : Fin 64) (n : ℕ) (hn : n < 4608) (hi : (i (ix3 c j 0)).toInt = (n : ℤ)) :
    Host.gather gather_S8x4608x8x64_S64x576x1_S8x64x576x8x64_034_1_n_n_1_2_81864 P i (ix5 b0 c j h d) = P (ix4 b0 ⟨n, hn⟩ h d) := by
  unfold Host.gather
  congr 1
  funext a
  refine Fin.ext ?_
  show GatherDims.start gather_S8x4608x8x64_S64x576x1_S8x64x576x8x64_034_1_n_n_1_2_81864 (ix5 b0 c j h d) i a + GatherDims.batchCoord gather_S8x4608x8x64_S64x576x1_S8x64x576x8x64_034_1_n_n_1_2_81864 (ix5 b0 c j h d) a + GatherDims.offCoord gather_S8x4608x8x64_S64x576x1_S8x64x576x8x64_034_1_n_n_1_2_81864 (ix5 b0 c j h d) a = _
  rw [GatherDims.batchCoord_eq_zero _ _ _ List.not_mem_nil]
  have h0 : ∀ a : Fin 4, a ≠ 1 → GatherDims.start gather_S8x4608x8x64_S64x576x1_S8x64x576x8x64_034_1_n_n_1_2_81864 (ix5 b0 c j h d) i a = 0 := by
    intro a ha
    have hm : a ∉ gather_S8x4608x8x64_S64x576x1_S8x64x576x8x64_034_1_n_n_1_2_81864.startIndexMap := fun h => ha (List.mem_singleton.mp h)
    unfold GatherDims.start
    rw [dif_neg hm]
  have hsi : ∀ k, GatherDims.siIdx gather_S8x4608x8x64_S64x576x1_S8x64x576x8x64_034_1_n_n_1_2_81864 (ix5 b0 c j h d) k = ix3 c j 0 := by
    intro k
    funext b; refine Fin.ext ?_
    match b with
    | ⟨0, _⟩ => rfl
    | ⟨1, _⟩ => rfl
    | ⟨2, _⟩ => exact congrArg (fun x : Fin 1 => x.val) (Subsingleton.elim _ _)
  have hcases : ∀ a : Fin 4, a = 0 ∨ a = 1 ∨ a = 2 ∨ a = 3 := by decide
  rcases hcases a with rfl | rfl | rfl | rfl
  · rw [h0 _ (by decide)]; exact Nat.zero_add _
  · have hm : (1 : Fin 4) ∈ gather_S8x4608x8x64_S64x576x1_S8x64x576x8x64_034_1_n_n_1_2_81864.startIndexMap := List.mem_singleton.mpr rfl
    rw [GatherDims.offCoord_eq_zero _ _ _ (fun h => ((GatherDims.mem_sKept _ _).mp h).1 (List.mem_singleton.mpr rfl))]
    unfold GatherDims.start
    rw [dif_pos hm, hsi, hi]
    show min n (4608 - 1) + 0 + 0 = n
    omega
  · rw [h0 _ (by decide)]; exact Nat.zero_add _
  · rw [h0 _ (by decide)]; exact Nat.zero_add _

/-- A gather of the bias table's columns at an index whose start is in range. -/
theorem cols_at (P : FVec Ideal S8x257 .f32) (i : IVec S64x576x1 32) (h : Fin 8) (c : Fin 64) (j : Fin 576) (n : ℕ) (hn : n < 257) (hi : (i (ix3 c j 0)).toInt = (n : ℤ)) :
    Host.gather gather_S8x257_S64x576x1_S8x64x576_0_1_n_n_1_2_81 P i (ix3 h c j) = P (ix2 h ⟨n, hn⟩) := by
  unfold Host.gather
  congr 1
  funext a
  refine Fin.ext ?_
  show GatherDims.start gather_S8x257_S64x576x1_S8x64x576_0_1_n_n_1_2_81 (ix3 h c j) i a + GatherDims.batchCoord gather_S8x257_S64x576x1_S8x64x576_0_1_n_n_1_2_81 (ix3 h c j) a + GatherDims.offCoord gather_S8x257_S64x576x1_S8x64x576_0_1_n_n_1_2_81 (ix3 h c j) a = _
  rw [GatherDims.batchCoord_eq_zero _ _ _ List.not_mem_nil]
  have hsi : ∀ k, GatherDims.siIdx gather_S8x257_S64x576x1_S8x64x576_0_1_n_n_1_2_81 (ix3 h c j) k = ix3 c j 0 := by
    intro k
    funext b; refine Fin.ext ?_
    match b with
    | ⟨0, _⟩ => rfl
    | ⟨1, _⟩ => rfl
    | ⟨2, _⟩ => exact congrArg (fun x : Fin 1 => x.val) (Subsingleton.elim _ _)
  have hcases : ∀ a : Fin 2, a = 0 ∨ a = 1 := by decide
  rcases hcases a with rfl | rfl
  · have hm : (0 : Fin 2) ∉ gather_S8x257_S64x576x1_S8x64x576_0_1_n_n_1_2_81.startIndexMap := fun h => (by decide : (0 : Fin 2) ≠ 1) (List.mem_singleton.mp h)
    unfold GatherDims.start
    rw [dif_neg hm]; exact Nat.zero_add _
  · have hm : (1 : Fin 2) ∈ gather_S8x257_S64x576x1_S8x64x576_0_1_n_n_1_2_81.startIndexMap := List.mem_singleton.mpr rfl
    rw [GatherDims.offCoord_eq_zero _ _ _ (fun h => ((GatherDims.mem_sKept _ _).mp h).1 (List.mem_singleton.mpr rfl))]
    unfold GatherDims.start
    rw [dif_pos hm, hsi, hi]
    show min n (257 - 1) + 0 + 0 = n
    omega

theorem queries_at (X : FVec Ideal S32768x6400 .bf16) (b0 : Fin 8) (c : Fin 64) (q : Fin 64) (h : Fin 8) (d : Fin 64) :
    queries X (ix5 b0 c q h d) = px X (b0.val * 4096 + (c.val * 64 + q.val)) (1536 + (h.val * 64 + d.val)) := by
  pointwise [queries, qkv]
  exact px_eq _ _ _ _ _ _ _ rfl rfl

theorem keysPad_at (X : FVec Ideal S32768x6400 .bf16) (b0 : Fin 8) (r : Fin 4608) (h : Fin 8) (d : Fin 64) :
    keysPad X (ix4 b0 r h d) = if 512 ≤ r.val then px X (b0.val * 4096 + (r.val - 512)) (1536 + (512 + (h.val * 64 + d.val))) else 0 := by
  pointwise [keysPad, qkv]
  by_cases hr : 512 ≤ r.val
  · rw [dif_pos ⟨hr, by omega⟩, if_pos hr]; exact px_eq _ _ _ _ _ _ _ rfl rfl
  · rw [dif_neg (fun h => hr h.1), if_neg hr]; show (((0#32 : BitVec 32).toInt : ℝ) : EReal) = 0; simp

theorem valuesPad_at (X : FVec Ideal S32768x6400 .bf16) (b0 : Fin 8) (r : Fin 4608) (h : Fin 8) (d : Fin 64) :
    valuesPad X (ix4 b0 r h d) = if 512 ≤ r.val then px X (b0.val * 4096 + (r.val - 512)) (1536 + (1024 + (h.val * 64 + d.val))) else 0 := by
  pointwise [valuesPad, qkv]
  by_cases hr : 512 ≤ r.val
  · rw [dif_pos ⟨hr, by omega⟩, if_pos hr]; exact px_eq _ _ _ _ _ _ _ rfl rfl
  · rw [dif_neg (fun h => hr h.1), if_neg hr]; show (((0#32 : BitVec 32).toInt : ℝ) : EReal) = 0; simp

theorem keysWin_at (X : FVec Ideal S32768x6400 .bf16) (b0 : Fin 8) (c : Fin 64) (j : Fin 576) (h : Fin 8) (d : Fin 64) :
    keysWin X (ix5 b0 c j h d) = if 512 ≤ c.val * 64 + j.val then px X (b0.val * 4096 + (c.val * 64 + j.val - 512)) (1536 + (512 + (h.val * 64 + d.val))) else 0 := by
  unfold keysWin
  rw [rows_at _ _ _ _ _ _ _ (c.val * 64 + j.val) (by omega) (row_at c j), keysPad_at]

theorem valuesWin_at (X : FVec Ideal S32768x6400 .bf16) (b0 : Fin 8) (c : Fin 64) (j : Fin 576) (h : Fin 8) (d : Fin 64) :
    valuesWin X (ix5 b0 c j h d) = if 512 ≤ c.val * 64 + j.val then px X (b0.val * 4096 + (c.val * 64 + j.val - 512)) (1536 + (1024 + (h.val * 64 + d.val))) else 0 := by
  unfold valuesWin
  rw [rows_at _ _ _ _ _ _ _ (c.val * 64 + j.val) (by omega) (row_at c j), valuesPad_at]

theorem biasWin_at (B : FVec Ideal S8x257 .f32) (h : Fin 8) (q : Fin 64) (j : Fin 576) :
    biasWin B (ix3 h q j) = bx B h.val (min 256 (640 + q.val - j.val)) := by
  unfold biasWin
  rw [cols_at _ _ _ _ _ (min 256 (640 + q.val - j.val)) (by omega) (dist_at q j)]
  exact bx_eq _ _ _ _ _ _ _ rfl rfl

theorem scores_at (X : FVec Ideal S32768x6400 .bf16) (B : FVec Ideal S8x257 .f32) (b0 : Fin 8) (c : Fin 64) (h : Fin 8) (q : Fin 64) (j : Fin 576) :
    scores (queries X) (keysWin X) (biasWin B) rowWord (ix5 b0 c h q j) = score X B (b0.val * 4096 + (c.val * 64 + q.val)) h.val j := by
  have h1 : scores (queries X) (keysWin X) (biasWin B) rowWord (ix5 b0 c h q j)
      = Scalar.select (IntOp.cmpi CmpIPredicate.sge (IntOp.subi (rowWord (ix2 c j)) 512#32) 0#32)
      ((∑ x, queries X (ix5 b0 c q h x) * keysWin X (ix5 b0 c j h x)) * Ideal.ofBits FTy.f32 1040187392#32 + biasWin B (ix3 h q j))
      (Ideal.ofBits .f32 4286578688#32) := by
    generalize queries X = Q
    generalize keysWin X = K
    generalize biasWin B = b
    generalize rowWord = w
    pointwise [scores]
    rfl
  rw [h1, mask_at, eighth_f32, bot_f32]
  have e1 : (b0.val * 4096 + (c.val * 64 + q.val)) / 64 % 64 = c.val := by omega
  have e2 : (b0.val * 4096 + (c.val * 64 + q.val)) / 4096 = b0.val := by omega
  have e3 : (b0.val * 4096 + (c.val * 64 + q.val)) % 64 = q.val := by omega
  unfold score
  rw [e1, e2, e3]
  by_cases hm : 512 ≤ c.val * 64 + j.val
  · rw [if_pos hm, if_pos hm, biasWin_at]
    refine congrArg (· * _ + _) (Finset.sum_congr rfl fun x _ => ?_)
    rw [queries_at, keysWin_at, if_pos hm]
    congr 2 <;> omega
  · rw [if_neg hm, if_neg hm]; rfl

theorem weights_at (s : FVec Ideal S8x64x8x64x576 .f32) (b0 : Fin 8) (c : Fin 64) (h : Fin 8) (q : Fin 64) (j : Fin 576) :
    weights s (ix5 b0 c h q j) = Ideal.exp (s (ix5 b0 c h q j) - Finset.univ.sup fun k => s (ix5 b0 c h q k)) := by
  have hM : ∀ M : FVec Ideal S8x64x8x64 .f32, Host.exp (subf s (broadcastInDim S8x64x8x64x576 ![0, 1, 2, 3, 4] bcast_S8x64x8x64x1_S8x64x8x64x576_0_1_2_3_4 (broadcastInDim S8x64x8x64x1 ![0, 1, 2, 3] bcast_S8x64x8x64_S8x64x8x64x1_0_1_2_3 M))) (ix5 b0 c h q j) = Ideal.exp (s (ix5 b0 c h q j) - M (ix4 b0 c h q)) := by
    intro M; pointwise []
  have hR : (Host.reduce FloatOps.maximumf s (constant S_ .f32 0xFF800000#32) reducesTo_S8x64x8x64x576_S8x64x8x64_d4 h_S_) (ix4 b0 c h q) = Finset.fold max (Ideal.ofBits FTy.f32 4286578688#32) (fun x => s (ix5 b0 c h q x)) Finset.univ := by
    pointwise []
  have hX : ∀ M : FVec Ideal S8x64x8x64 .f32, (maximumf (broadcastInDim S8x64x8x64 ![] bcast_S_S8x64x8x64 (constant (F := Ideal) S_ .f32 0xFF800000#32)) M) (ix4 b0 c h q) = max (Ideal.ofBits FTy.f32 4286578688#32) (M (ix4 b0 c h q)) := by
    intro M; pointwise []
  unfold weights
  rw [hM, hX, hR, bot_f32, Softmax.fold_max_eq_sup, max_eq_right bot_le]

theorem attend_at (s : FVec Ideal S8x64x8x64x576 .f32) (V : FVec Ideal S8x64x576x8x64 .f32) (r : Fin 32768) (e : Fin 512) :
    attend s V (ix2 r e) = softmaxSum (fun j => s (ix5 ⟨r.val / 4096, by omega⟩ ⟨r.val / 64 % 64, by omega⟩ ⟨e.val / 64, by omega⟩ ⟨r.val % 64, by omega⟩ j))
      (fun j => V (ix5 ⟨r.val / 4096, by omega⟩ ⟨r.val / 64 % 64, by omega⟩ j ⟨e.val / 64, by omega⟩ ⟨e.val % 64, by omega⟩)) := by
  have h : attend s V (ix2 r e) = ∑ x, V (ix5 ⟨r.val / 4096, by omega⟩ ⟨r.val / 64 % 64, by omega⟩ x ⟨e.val / 64, by omega⟩ ⟨e.val % 64, by omega⟩) *
      Ideal.div (weights s (ix5 ⟨r.val / 4096, by omega⟩ ⟨r.val / 64 % 64, by omega⟩ ⟨e.val / 64, by omega⟩ ⟨r.val % 64, by omega⟩ x))
        (∑ y, weights s (ix5 ⟨r.val / 4096, by omega⟩ ⟨r.val / 64 % 64, by omega⟩ ⟨e.val / 64, by omega⟩ ⟨r.val % 64, by omega⟩ y)) := by
    unfold attend
    generalize weights s = w
    pointwise []
  rw [h]
  unfold softmaxSum
  simp only [weights_at]
  exact Finset.sum_congr rfl fun j _ => mul_comm _ _

/-- The reference's result at an index: the softmax of the row's scores over the row's values. -/
theorem result_at (m : (ℓ : Loc nD τ sig) → Buf (Elt Ideal) ℓ) (c : Dev nD) (r : Fin 32768) (e : Fin 512) :
    Value.res_main_v79 m c (ix2 r e)
      = softmaxSum (score (m ((c.tc : Thread nD τ).loc main_arg0)) (m ((c.tc : Thread nD τ).loc main_arg1)) r.val (e.val / 64))
          (value (m ((c.tc : Thread nD τ).loc main_arg0)) r.val e.val) := by
  rw [result_eq, attend_at]
  generalize (m ((c.tc : Thread nD τ).loc main_arg0)) = X
  generalize (m ((c.tc : Thread nD τ).loc main_arg1)) = B
  congr 1
  · funext j
    refine (scores_at X B _ _ _ _ _).trans ?_
    have : r.val / 4096 * 4096 + (r.val / 64 % 64 * 64 + r.val % 64) = r.val := by omega
    simp only [this]
  · funext j
    refine (valuesWin_at X _ _ _ _ _).trans ?_
    unfold value
    have : 1536 + (1024 + (e.val / 64 * 64 + e.val % 64)) = 2560 + e.val := by omega
    simp only [this]

end Cert.ReferenceIdeal.Band

end
-- ==== Proof.BandCompare.lean ====
module

public import proofs.«01_k».proof.Proof.BandBlock
public import proofs.«01_k».proof.Proof.BandReference
public import proofs.«01_k».proof.Proof.Softmax

@[expose] public section

set_option maxRecDepth 16384

noncomputable section

namespace Cert.KernelIdeal.Band

open Cert.KernelIdeal Cert.KernelIdeal.Gen Idealize.ShloMosaic Idealize.ShloMosaic.TcCoe Idealize.SL.Sem
open Cert.ReferenceIdeal.Band (px bx score value softmaxSum)

/-- The head's place `j` of the chunk's window among the 640 places of the tile's: 64 further for the tile's second chunk. -/
def place (u : ℕ) (hu : u < 2) (j : Fin 576) : Fin 640 := ⟨64 * u + j.val, by have := j.isLt; omega⟩

theorem place_injective (u : ℕ) (hu : u < 2) : Function.Injective (place u hu) := by
  intro i j h
  have : 64 * u + i.val = 64 * u + j.val := congrArg Fin.val h
  exact Fin.ext (by omega)

theorem real_sum {ι : Type*} (s : Finset ι) (f : ι → EReal) (h : ∀ i, ∃ x : ℝ, f i = x) : ∃ x : ℝ, ∑ i ∈ s, f i = x := by
  choose g hg using h
  refine ⟨∑ i ∈ s, g i, ?_⟩
  simp only [hg]
  exact (Cert.Softmax.sum_coe s g).symm

theorem real_mul {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem real_add {a b : EReal} (ha : ∃ x : ℝ, a = x) (hb : ∃ x : ℝ, b = x) : ∃ x : ℝ, a + b = x := by
  obtain ⟨x, rfl⟩ := ha
  obtain ⟨y, rfl⟩ := hb
  exact ⟨x + y, (EReal.coe_add x y).symm⟩

/-- A tile's block of attention is the softmax over each row's own window. -/
theorem block_eq (X : FVec Ideal S32768x6400 .bf16) (B : FVec Ideal S8x257 .f32)
    (hX : ∀ r k, 1536 ≤ k → k < 2560 → ∃ x : ℝ, px X r k = x) (hB : ∀ h k, ∃ x : ℝ, bx B h k = x)
    (t : ℕ) (ht : t < 64) (x0 x1 x2 x3 x4 : Vec Ideal S512x512 .bf16) (x5 : Vec Ideal S8x640x128 .f32)
    (h0 : ∀ r k, r < 512 → k < 512 → q2 x0 r k = px X (t * 512 + r) (1536 + k))
    (h1 : ∀ r k, r < 512 → k < 512 → q2 x1 r k = px X ((t / 8 * 8 + (t % 8 - 1)) * 512 + r) (2048 + k))
    (h2 : ∀ r k, r < 512 → k < 512 → q2 x2 r k = px X (t * 512 + r) (2048 + k))
    (h3 : ∀ r k, r < 512 → k < 512 → q2 x3 r k = px X ((t / 8 * 8 + (t % 8 - 1)) * 512 + r) (2560 + k))
    (h4 : ∀ r k, r < 512 → k < 512 → q2 x4 r k = px X (t * 512 + r) (2560 + k))
    (h5 : ∀ h i a, h < 8 → i < 640 → a < 128 → b3 x5 h i a = if (if a < 64 then i < 576 else 64 ≤ i) then bx B h (min 256 (640 + a - i)) else ⊥)
    (r e : ℕ) (hr : r < 512) (he : e < 512) :
    blockAt (t % 8) x0 x1 x2 x3 x4 x5 (r / 128 * 128) (e / 64) (e % 64) (r % 128) = softmaxSum (score X B (t * 512 + r) (e / 64)) (value X (t * 512 + r) e) := by
  have hu : r % 128 / 64 < 2 := by omega
  have hrow : (t * 512 + r) / 64 % 64 * 64 = t % 8 * 512 + r / 128 * 128 + 64 * (r % 128 / 64) := by omega
  have hseq : (t * 512 + r) / 4096 = t / 8 := by omega
  have hq : (t * 512 + r) % 64 = r % 64 := by omega
  have hsc : ∀ j, score X B (t * 512 + r) (e / 64) j ≠ ⊤ := by
    intro j
    unfold score
    split
    · obtain ⟨x, hx⟩ := real_add (real_mul (real_sum Finset.univ _ fun k : Fin 64 => real_mul (hX (t * 512 + r) (1536 + e / 64 * 64 + k.val) (by omega) (by omega))
        (hX ((t * 512 + r) / 4096 * 4096 + ((t * 512 + r) / 64 % 64 * 64 + j.val - 512)) (2048 + e / 64 * 64 + k.val) (by omega) (by omega))) ⟨1 / 8, rfl⟩) (hB (e / 64) (min 256 (640 + (t * 512 + r) % 64 - j.val)))
      rw [hx]; exact EReal.coe_ne_top x
    · exact bot_ne_top
  have hown : score X B (t * 512 + r) (e / 64) ⟨512 + r % 64, by omega⟩ ≠ ⊥ := by
    unfold score
    rw [if_pos (by dsimp only; omega)]
    obtain ⟨x, hx⟩ := real_add (real_mul (real_sum Finset.univ _ fun k : Fin 64 => real_mul (hX (t * 512 + r) (1536 + e / 64 * 64 + k.val) (by omega) (by omega))
        (hX ((t * 512 + r) / 4096 * 4096 + ((t * 512 + r) / 64 % 64 * 64 + (512 + r % 64) - 512)) (2048 + e / 64 * 64 + k.val) (by omega) (by omega))) ⟨1 / 8, rfl⟩) (hB (e / 64) (min 256 (640 + (t * 512 + r) % 64 - (512 + r % 64))))
    rw [hx]; exact EReal.coe_ne_bot x
  have hkey : ∀ (h c : ℕ) (j : Fin 576), h < 8 → c < 64 → 0 < t % 8 ∨ 512 ≤ r / 128 * 128 + (place _ hu j).val →
      keyAt x1 x2 h (r / 128 * 128 + (place _ hu j).val) c = px X (t / 8 * 4096 + (t % 8 * 512 + r / 128 * 128 + 64 * (r % 128 / 64) + j.val - 512)) (2048 + h * 64 + c) := by
    intro h c j hh hc hin
    have hj := j.isLt
    have hp : (place _ hu j).val = 64 * (r % 128 / 64) + j.val := rfl
    rw [hp] at hin ⊢
    unfold keyAt
    split
    · rw [h1 _ _ (by omega) (by omega)]
      congr 1 <;> omega
    · rw [h2 _ _ (by omega) (by omega)]
      congr 1 <;> omega
  have hval : ∀ (j : Fin 576), 0 < t % 8 ∨ 512 ≤ r / 128 * 128 + (place _ hu j).val →
      valAt x3 x4 (e / 64) (e % 64) (r / 128 * 128 + (place _ hu j).val) = px X (t / 8 * 4096 + (t % 8 * 512 + r / 128 * 128 + 64 * (r % 128 / 64) + j.val - 512)) (2560 + e) := by
    intro j hin
    have hj := j.isLt
    have hp : (place _ hu j).val = 64 * (r % 128 / 64) + j.val := rfl
    rw [hp] at hin ⊢
    unfold valAt
    rw [if_pos (by omega)]
    split
    · rw [h3 _ _ (by omega) (by omega)]
      congr 1 <;> omega
    · rw [h4 _ _ (by omega) (by omega)]
      congr 1 <;> omega
  unfold blockAt quotient softmaxSum
  have hone : ∀ i : Fin 640, valAt x3 x4 (e / 64) 64 (r / 128 * 128 + i.val) = 1 := fun i => by
    unfold valAt; rw [if_neg (by omega), if_pos rfl]
  simp only [hone, one_mul]
  refine Cert.Softmax.wider (place _ hu) (place_injective _ hu) _ _ _ _ ?_ ?_ hsc _ hown ?_
  · intro j
    have hj := j.isLt
    have hp : (place _ hu j).val = 64 * (r % 128 / 64) + j.val := rfl
    unfold tileScore score
    rw [hrow, hseq, hq]
    by_cases hin : 0 < t % 8 ∨ 512 ≤ r / 128 * 128 + (place _ hu j).val
    · rw [if_pos hin, if_pos (by omega)]
      refine congr (congrArg _ ?_) ?_
      · refine Eq.trans ?_ (mul_comm ((1 / 8 : ℝ) : EReal) _)
        rw [Cert.Softmax.mul_sum_real _ _ (by exact_mod_cast (by norm_num : (0:ℝ) ≤ 1 / 8)) (EReal.coe_ne_top _)]
        refine Finset.sum_congr rfl fun k _ => ?_
        rw [hkey _ _ j (by omega) k.isLt hin, h0 _ _ (by omega) (by omega)]
        rw [show t * 512 + (r / 128 * 128 + r % 128) = t * 512 + r by omega, show 1536 + (64 * (e / 64) + k.val) = 1536 + e / 64 * 64 + k.val by omega]
        exact (mul_assoc _ _ _).symm.trans ((mul_comm _ _).trans (congrArg _ (mul_comm _ _)))
      · rw [h5 _ _ _ (by omega) (by omega) (by omega), if_pos (by rw [hp]; split <;> omega), hp]
        congr 1
        omega
    · rw [if_neg hin, if_neg (by omega)]
  · intro i hi
    unfold tileScore
    split
    · rw [h5 _ _ _ (by omega) i.isLt (by omega), if_neg, EReal.add_bot]
      intro hc
      refine hi ⟨⟨i.val - 64 * (r % 128 / 64), ?_⟩, Fin.ext ?_⟩
      · have := i.isLt
        split at hc <;> omega
      · show 64 * (r % 128 / 64) + (i.val - 64 * (r % 128 / 64)) = i.val
        split at hc <;> omega
    · rfl
  · intro j hs
    have hp : (place _ hu j).val = 64 * (r % 128 / 64) + j.val := rfl
    have hin : 0 < t % 8 ∨ 512 ≤ r / 128 * 128 + (place _ hu j).val := by
      by_contra hin
      refine hs ?_
      unfold score
      rw [if_neg (by rw [hrow]; omega)]
    rw [hval j hin]
    unfold value
    rw [hrow, hseq, if_pos (by omega)]

end Cert.KernelIdeal.Band

end
-- ==== Proof.BandBias.lean ====
module

public import proofs.«01_k».proof.Proof.Gen.KernelIdeal.Frame
public import proofs.«01_k».proof.Proof.BandTile
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Band

open Cert.KernelIdeal Cert.KernelIdeal.Gen Idealize.ShloMosaic Idealize.ShloMosaic.TcCoe Idealize.SL.Sem

/-- The column of the bias table that position `n` of a head's row of 768 numbers holds. -/
def colOf (n : ℕ) : ℕ := if n < 128 then 256 else min 256 (n - 128)

/-- A gather of the bias table's columns at an index whose start is in range. -/
theorem cols_at (P : FVec Ideal S8x257 .f32) (i : IVec S768x1 32) (h : Fin 8) (c : Fin 768) (n : ℕ) (hn : n < 257) (hi : (i (ix2 c 0)).toInt = (n : ℤ)) :
    Host.gather gather_S8x257_S768x1_S8x768_0_1_n_n_1_1_81 P i (ix2 h c) = P (ix2 h ⟨n, hn⟩) := by
  unfold Host.gather
  congr 1
  funext a
  refine Fin.ext ?_
  show GatherDims.start gather_S8x257_S768x1_S8x768_0_1_n_n_1_1_81 (ix2 h c) i a + GatherDims.batchCoord gather_S8x257_S768x1_S8x768_0_1_n_n_1_1_81 (ix2 h c) a + GatherDims.offCoord gather_S8x257_S768x1_S8x768_0_1_n_n_1_1_81 (ix2 h c) a = _
  rw [GatherDims.batchCoord_eq_zero _ _ _ List.not_mem_nil]
  have hsi : ∀ k, GatherDims.siIdx gather_S8x257_S768x1_S8x768_0_1_n_n_1_1_81 (ix2 h c) k = ix2 c 0 := by
    intro k
    funext b; refine Fin.ext ?_
    match b with
    | ⟨0, _⟩ => rfl
    | ⟨1, _⟩ => exact congrArg (fun x : Fin 1 => x.val) (Subsingleton.elim _ _)
  have hcases : ∀ a : Fin 2, a = 0 ∨ a = 1 := by decide
  rcases hcases a with rfl | rfl
  · have hm : (0 : Fin 2) ∉ gather_S8x257_S768x1_S8x768_0_1_n_n_1_1_81.startIndexMap := fun h => absurd (List.mem_singleton.mp h) (by decide)
    unfold GatherDims.start
    rw [dif_neg hm]; exact Nat.zero_add _
  · have hm : (1 : Fin 2) ∈ gather_S8x257_S768x1_S8x768_0_1_n_n_1_1_81.startIndexMap := List.mem_singleton.mpr rfl
    rw [GatherDims.offCoord_eq_zero _ _ _ (fun h => ((GatherDims.mem_sKept _ _).mp h).1 (List.mem_singleton.mpr rfl))]
    unfold GatherDims.start
    rw [dif_pos hm, hsi, hi]
    show min n (257 - 1) + 0 + 0 = n
    omega

theorem colOf_lt (n : ℕ) : colOf n < 257 := by unfold colOf; split <;> omega

theorem window_fact (i : Fin 640) (a : Fin 128) : Scalar.select
      (Scalar.select (IntOp.cmpi CmpIPredicate.slt (BitVec.ofNat 32 a.val) 64#32)
        (IntOp.cmpi CmpIPredicate.slt (BitVec.ofNat 32 i.val) 576#32)
        (IntOp.cmpi CmpIPredicate.sge (BitVec.ofNat 32 i.val) 64#32)) = fun (x y : EReal) => if (if a.val < 64 then i.val < 576 else 64 ≤ i.val) then x else y := by
  have f1 : ∀ a : Fin 128, IntOp.cmpi CmpIPredicate.slt (BitVec.ofNat 32 a.val) 64#32 = if a.val < 64 then 1#1 else 0#1 := by decide +kernel
  have f2 : ∀ i : Fin 640, IntOp.cmpi CmpIPredicate.slt (BitVec.ofNat 32 i.val) 576#32 = if i.val < 576 then 1#1 else 0#1 := by decide +kernel
  have f3 : ∀ i : Fin 640, IntOp.cmpi CmpIPredicate.sge (BitVec.ofNat 32 i.val) 64#32 = if 64 ≤ i.val then 1#1 else 0#1 := by decide +kernel
  rw [f1, f2, f3]
  funext x y
  by_cases e1 : a.val < 64 <;> by_cases e2 : i.val < 576 <;> by_cases e3 : 64 ≤ i.val <;> simp [e1, e2, e3, Scalar.select]

/-- The column words before negative ones are wrapped. -/
def colVec : IVec S768 32 :=
  addi (minsi (broadcastInDim S768 ![] bcast_S_S768 (id (constantI S_ 32 128#32)))
    (maxsi (broadcastInDim S768 ![] bcast_S_S768 (id (constantI S_ 32 4294967168#32)))
      (addi (broadcastInDim S768 ![] bcast_S_S768 (constantI S_ 32 512#32))
        (select (cmpi CmpIPredicate.slt (iotaInDim S768 32 0) (broadcastInDim S768 ![] bcast_S_S768 (constantI S_ 32 128#32)))
          (iotaInDim S768 32 0)
          (subi (iotaInDim S768 32 0) (broadcastInDim S768 ![] bcast_S_S768 (constantI S_ 32 768#32)))))))
    (broadcastInDim S768 ![] bcast_S_S768 (constantI S_ 32 128#32))

/-- One column word. -/
def colWord (w : BitVec 32) : BitVec 32 :=
  IntOp.addi (IntOp.minsi 128#32 (IntOp.maxsi 4294967168#32 (IntOp.addi 512#32 (Scalar.select (IntOp.cmpi CmpIPredicate.slt w 128#32) w (IntOp.subi w 768#32))))) 128#32

theorem colVec_at (n : Fin 768) : colVec (ix1 n) = colWord (BitVec.ofNat 32 n.val) := by
  unfold colWord
  pointwise [colVec]
  rfl

/-- The gather's start indices. -/
def colStarts : IVec S768x1 32 :=
  broadcastInDim S768x1 ![0] bcast_S768_S768x1_0
    (select (cmpi CmpIPredicate.slt colVec (broadcastInDim S768 ![] bcast_S_S768 (constantI S_ 32 0#32)))
      (addi colVec (broadcastInDim S768 ![] bcast_S_S768 (constantI S_ 32 257#32))) colVec)

theorem starts_at (n : Fin 768) : colStarts (ix2 n 0) = Scalar.select (IntOp.cmpi CmpIPredicate.slt (colWord (BitVec.ofNat 32 n.val)) 0#32) (IntOp.addi (colWord (BitVec.ofNat 32 n.val)) 257#32) (colWord (BitVec.ofNat 32 n.val)) := by
  rw [← colVec_at]
  pointwise [colStarts]

theorem col_fact : ∀ n : Fin 768, (Scalar.select (IntOp.cmpi CmpIPredicate.slt (colWord (BitVec.ofNat 32 n.val)) 0#32) (IntOp.addi (colWord (BitVec.ofNat 32 n.val)) 257#32) (colWord (BitVec.ofNat 32 n.val))).toInt = ((colOf n.val : ℕ) : ℤ) := by decide +kernel

theorem gathered (P : FVec Ideal S8x257 .f32) (h : Fin 8) (n : Fin 768) :
    Host.gather gather_S8x257_S768x1_S8x768_0_1_n_n_1_1_81 P colStarts (ix2 h n) = P (ix2 h ⟨colOf n.val, colOf_lt _⟩) :=
  cols_at P colStarts h n _ (colOf_lt _) (by rw [starts_at]; exact col_fact n)

/-- The bias array the kernel is given: the table at the clipped distance, minus infinity outside the chunk's window. -/
theorem bias_at (m : (ℓ : Loc nD τ sig) → Buf (Elt Ideal) ℓ) (c : Dev nD) (h : Fin 8) (i : Fin 640) (a : Fin 128) :
    @Eq EReal (V m c main_v35 (ix3 h i a)) (if (if a.val < 64 then i.val < 576 else 64 ≤ i.val) then (m ((c.tc : Thread nD τ).loc main_arg1) (ix2 h ⟨min 256 (640 + a.val - i.val), by omega⟩)) else ⊥) := by
  unfold V
  after_reads_at
  refine (congrFun (congrFun (window_fact i a) _) _).trans ?_
  refine if_congr Iff.rfl ?_ ?_
  · refine (gathered _ h _).trans ?_
    refine congrArg (fun k => m ((c.tc : Thread nD τ).loc main_arg1) (ix2 h k)) (Fin.ext ?_)
    show colOf ((i.val * 767 + a.val) % 768) = min 256 (640 + a.val - i.val)
    have := i.isLt
    have := a.isLt
    rcases Nat.lt_or_ge a.val i.val with hlt | hge
    · have e : (i.val * 767 + a.val) % 768 = 768 + a.val - i.val := by
        have e1 : i.val * 767 + a.val = (768 + a.val - i.val) + 768 * (i.val - 1) := by omega
        rw [e1, Nat.add_mul_mod_self_left, Nat.mod_eq_of_lt (by omega)]
      rw [e]
      unfold colOf
      split <;> omega
    · have e : (i.val * 767 + a.val) % 768 = a.val - i.val := by
        have e1 : i.val * 767 + a.val = (a.val - i.val) + 768 * i.val := by omega
        rw [e1, Nat.add_mul_mod_self_left, Nat.mod_eq_of_lt (by omega)]
      rw [e]
      unfold colOf
      split <;> omega
  · exact bot_f32

end Cert.KernelIdeal.Band

end
-- ==== Proof.BandValue.lean ====
module

public import proofs.«01_k».proof.Proof.BandCompare
public import proofs.«01_k».proof.Proof.BandBias
public import proofs.«01_k».proof.Proof.Gen.KernelIdeal.Value
public import proofs.«01_k».proof.Proof.Gen.Pre_finite
public import proofs.«01_k».proof.Defs

@[expose] public section

set_option maxRecDepth 16384

noncomputable section

namespace Cert.KernelIdeal.Band

open Cert.KernelIdeal Cert.KernelIdeal.Gen Idealize.ShloMosaic Idealize.ShloMosaic.TcCoe Idealize.SL.Sem
open Cert.ReferenceIdeal.Band (px bx px_eq bx_eq score value softmaxSum)

/-- Which block of its array each window stages at each grid point. -/
theorem idx : ∀ t : Fin cfg0.N, win0_0.index t = ![t.val, 3] ∧ win0_1.index t = ![t.val / 8 * 8 + (t.val % 8 - 1), 4] ∧ win0_2.index t = ![t.val, 4]
    ∧ win0_3.index t = ![t.val / 8 * 8 + (t.val % 8 - 1), 5] ∧ win0_4.index t = ![t.val, 5] ∧ win0_5.index t = ![0, 0, 0] ∧ win0_6.index t = ![t.val, 0]
    ∧ (grid0.coords t 1).val = t.val % 8 ∧ t.val < 64 :=
  (by decide +kernel : ∀ t : Fin grid0.N, _)

variable (m : (ℓ : Loc nD τ sig) → Buf (Elt Ideal) ℓ)

/-- Window 0 stages the queries of the tile. -/
theorem staged0 (c : Dev nD) (t : Fin cfg0.N) (r k : ℕ) (hr : r < 512) (hk : k < 512) :
    q2 (X0_0 m c t) r k = px (m ((c.tc : Thread nD τ).loc main_arg0)) (t.val * 512 + r) (1536 + k) := by
  have ht := (idx t).2.2.2.2.2.2.2.2
  unfold q2
  rw [dif_pos (And.intro hr hk)]
  unfold X0_0 Pipeline.Window.fill
  rw [dif_pos (moved0_0 t _)]
  refine Eq.trans ?_ (px_eq (m ((c.tc : Thread nD τ).loc main_arg0)) (t.val * 512 + r) (1536 + k) _ _ (by omega) (by omega) rfl rfl)
  blk_point [iblk, V, idx t]

/-- Window 1 stages the keys of the tile before. -/
theorem staged1 (c : Dev nD) (t : Fin cfg0.N) (r k : ℕ) (hr : r < 512) (hk : k < 512) :
    q2 (X0_1 m c t) r k = px (m ((c.tc : Thread nD τ).loc main_arg0)) ((t.val / 8 * 8 + (t.val % 8 - 1)) * 512 + r) (2048 + k) := by
  have ht := (idx t).2.2.2.2.2.2.2.2
  unfold q2
  rw [dif_pos (And.intro hr hk)]
  unfold X0_1 Pipeline.Window.fill
  rw [dif_pos (moved0_1 t _)]
  refine Eq.trans ?_ (px_eq (m ((c.tc : Thread nD τ).loc main_arg0)) ((t.val / 8 * 8 + (t.val % 8 - 1)) * 512 + r) (2048 + k) _ _ (by omega) (by omega) rfl rfl)
  blk_point [iblk, V, idx t]

/-- Window 2 stages the keys of the tile. -/
theorem staged2 (c : Dev nD) (t : Fin cfg0.N) (r k : ℕ) (hr : r < 512) (hk : k < 512) :
    q2 (X0_2 m c t) r k = px (m ((c.tc : Thread nD τ).loc main_arg0)) (t.val * 512 + r) (2048 + k) := by
  have ht := (idx t).2.2.2.2.2.2.2.2
  unfold q2
  rw [dif_pos (And.intro hr hk)]
  unfold X0_2 Pipeline.Window.fill
  rw [dif_pos (moved0_2 t _)]
  refine Eq.trans ?_ (px_eq (m ((c.tc : Thread nD τ).loc main_arg0)) (t.val * 512 + r) (2048 + k) _ _ (by omega) (by omega) rfl rfl)
  blk_point [iblk, V, idx t]

/-- Window 3 stages the values of the tile before. -/
theorem staged3 (c : Dev nD) (t : Fin cfg0.N) (r k : ℕ) (hr : r < 512) (hk : k < 512) :
    q2 (X0_3 m c t) r k = px (m ((c.tc : Thread nD τ).loc main_arg0)) ((t.val / 8 * 8 + (t.val % 8 - 1)) * 512 + r) (2560 + k) := by
  have ht := (idx t).2.2.2.2.2.2.2.2
  unfold q2
  rw [dif_pos (And.intro hr hk)]
  unfold X0_3 Pipeline.Window.fill
  rw [dif_pos (moved0_3 t _)]
  refine Eq.trans ?_ (px_eq (m ((c.tc : Thread nD τ).loc main_arg0)) ((t.val / 8 * 8 + (t.val % 8 - 1)) * 512 + r) (2560 + k) _ _ (by omega) (by omega) rfl rfl)
  blk_point [iblk, V, idx t]

/-- Window 4 stages the values of the tile. -/
theorem staged4 (c : Dev nD) (t : Fin cfg0.N) (r k : ℕ) (hr : r < 512) (hk : k < 512) :
    q2 (X0_4 m c t) r k = px (m ((c.tc : Thread nD τ).loc main_arg0)) (t.val * 512 + r) (2560 + k) := by
  have ht := (idx t).2.2.2.2.2.2.2.2
  unfold q2
  rw [dif_pos (And.intro hr hk)]
  unfold X0_4 Pipeline.Window.fill
  rw [dif_pos (moved0_4 t _)]
  refine Eq.trans ?_ (px_eq (m ((c.tc : Thread nD τ).loc main_arg0)) (t.val * 512 + r) (2560 + k) _ _ (by omega) (by omega) rfl rfl)
  blk_point [iblk, V, idx t]

/-- Window 5 stages the whole bias array. -/
theorem staged5 (c : Dev nD) (t : Fin cfg0.N) (h i a : ℕ) (hh : h < 8) (hi : i < 640) (ha : a < 128) :
    b3 (iblk m c 5 t) h i a = if (if a < 64 then i < 576 else 64 ≤ i) then bx (m ((c.tc : Thread nD τ).loc main_arg1)) h (min 256 (640 + a - i)) else ⊥ := by
  unfold b3
  rw [dif_pos (And.intro hh (And.intro hi ha))]
  have e : (iblk m c 5 t (ix3 (⟨h, hh⟩ : Fin 8) (⟨i, hi⟩ : Fin 640) (⟨a, ha⟩ : Fin 128)) : EReal) = V m c main_v35 (ix3 (⟨h, hh⟩ : Fin 8) (⟨i, hi⟩ : Fin 640) (⟨a, ha⟩ : Fin 128)) := by
    blk_ext [iblk, idx t]
  refine e.trans ((bias_at m c ⟨h, hh⟩ ⟨i, hi⟩ ⟨a, ha⟩).trans ?_)
  refine if_congr Iff.rfl ?_ rfl
  exact bx_eq (m ((c.tc : Thread nD τ).loc main_arg1)) _ _ _ _ _ _ rfl rfl

theorem real_of_abs_lt (x : EReal) (h : Ideal.cmp .olt (max x (-x)) ⊤ = 1#1) : ∃ y : ℝ, x = y := by
  induction x using EReal.rec with
  | bot => simp [Ideal.cmp] at h
  | coe y => exact ⟨y, rfl⟩
  | top => simp [Ideal.cmp] at h

theorem inf_f32 : Ideal.ofBits .f32 0x7F800000#32 = ⊤ := by simp [Ideal.ofBits, Ideal.ieee]

/-- What the precondition says: queries, keys and bias table are finite. -/
theorem finite_facts (hpre : Pre_KernelIdeal_finite m) (c : Dev nD) :
    (∀ r k, 1536 ≤ k → k < 2560 → ∃ x : ℝ, px (m ((c.tc : Thread nD τ).loc main_arg0)) r k = x) ∧ (∀ h k, ∃ x : ℝ, bx (m ((c.tc : Thread nD τ).loc main_arg1)) h k = x) := by
  obtain ⟨e1, e2⟩ := hpre c
  generalize m ((c.tc : Thread nD τ).loc main_arg0) = X at *
  generalize m ((c.tc : Thread nD τ).loc main_arg1) = B at *
  constructor
  · intro r k hk1 hk2
    obtain ⟨k', rfl⟩ : ∃ k', k = 1536 + k' := ⟨k - 1536, by omega⟩
    unfold px
    split
    next h =>
      have := congrFun e1 (ix2 ⟨r, h.1⟩ ⟨k', by omega⟩)
      refine real_of_abs_lt _ (Eq.trans ?_ this)
      rw [← inf_f32]
      pointwise [Cert.Pre_finite.fn]
      rfl
    · exact ⟨0, rfl⟩
  · intro h k
    unfold bx
    split
    next hh =>
      have := congrFun e2 (ix2 ⟨h, hh.1⟩ ⟨k, hh.2⟩)
      refine real_of_abs_lt _ (Eq.trans ?_ this)
      rw [← inf_f32]
      pointwise [Cert.Pre_finite.fn]
      rfl
    · exact ⟨0, rfl⟩

/-- The attention as the reference computes it, as one array over the projected rows and the bias table. -/
def attention (X : FVec Ideal S32768x6400 .bf16) (B : FVec Ideal S8x257 .f32) : FVec Ideal S32768x512 .bf16 :=
  fun i => softmaxSum (score X B (i 0).val ((i 1).val / 64)) (value X (i 0).val (i 1).val)

/-- The array the kernel leaves is the attention. -/
theorem final (hpre : Pre_KernelIdeal_finite m) (c : Dev nD) :
    (dats m 0 c).arrAt 6 cfg0.N = attention (m ((c.tc : Thread nD τ).loc main_arg0)) (m ((c.tc : Thread nD τ).loc main_arg1)) := by
  obtain ⟨hX, hB⟩ := finite_facts m hpre c
  refine (dats m 0 c).arrAt_eq_of_covers 6 _ (by decide +kernel) fun t _ y => ?_
  have ht := (idx t).2.2.2.2.2.2.2.2
  have h := block_eq _ _ hX hB t.val ht (X0_0 m c t) (X0_1 m c t) (X0_2 m c t) (X0_3 m c t) (X0_4 m c t) (iblk m c 5 t)
    (staged0 m c t) (staged1 m c t) (staged2 m c t) (staged3 m c t) (staged4 m c t) (staged5 m c t) (y 0).val (y 1).val (y 0).isLt (y 1).isLt
  rw [← (idx t).2.2.2.2.2.2.2.1] at h
  rw [← out_at c t (X0_0 m c t) (X0_1 m c t) (X0_2 m c t) (X0_3 m c t) (X0_4 m c t) (iblk m c 5 t) y] at h
  blk_simp
  rw [after0_6]
  refine Eq.trans ?_ (h.trans ?_)
  · rfl
  · unfold attention
    have e0 : (((win0_6.blk t).view.emb y 0 : Fin _) : ℕ) = t.val * 512 + (y 0).val := by blk_simp [idx t]
    have e1 : (((win0_6.blk t).view.emb y 1 : Fin _) : ℕ) = (y 1).val := by blk_simp [idx t]; try omega
    rw [e0, e1]

end Cert.KernelIdeal.Band

end
-- ==== Proof.InprojBlock.lean ====
module

public import proofs.«01_k».proof.Proof.Gen.Kernel2Ideal.Frame
public import proofs.«01_k».proof.Proof.Linear
public import Idealize.ShloMosaic.Lib.Pipeline.ValueKit
public import Idealize.ShloMosaic.Lib.Pipeline.ReadBack

@[expose] public section

set_option maxRecDepth 16384

noncomputable section

namespace Cert.Kernel2Ideal.Inproj

open Cert.Kernel2Ideal Cert.Kernel2Ideal.Gen Idealize.ShloMosaic Idealize.ShloMosaic.TcCoe Idealize.SL.Sem Cert.Linear

/-- The normalised block, entry by entry. -/
theorem norm_at (x : Vec Ideal S1024x2048 .f32) (g : Vec Ideal S1x2048 .f32) (r : Fin 1024) (k : Fin 2048) :
    (k0_pay1 (F := Ideal) x g (ix2 r k) : EReal) = rms (fun j => x (ix2 r j)) (fun j => g (ix2 0 j)) k := by
  pointwise [k0_pay1, rms]

/-- The product block, entry by entry. -/
theorem product_at (x : Vec Ideal S1024x2048 .bf16) (w : Vec Ideal S2048x1280 .bf16) (r : Fin 1024) (n : Fin 1280) :
    (k0_pay2 (F := Ideal) x w (ix2 r n) : EReal) = ∑ k : Fin 2048, x (ix2 r k) * w (ix2 k n) := by
  pointwise [k0_pay2]

theorem scratch_first (c : Dev nD) (t : Fin cfg0.N) (h0 : t.val % 5 = 0) (x0 : Vec Ideal S1024x2048 .f32) (x1 : Vec Ideal S1x2048 .f32) (x2 : Vec Ideal S2048x1280 .bf16) :
    sout0_A_0 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) x0 x1 x2 = k0_pay1 x0 x1 := by
  frame_out

theorem out_first (c : Dev nD) (t : Fin cfg0.N) (h0 : t.val % 5 = 0) (x0 : Vec Ideal S1024x2048 .f32) (x1 : Vec Ideal S1x2048 .f32) (x2 : Vec Ideal S2048x1280 .bf16) :
    out0_A_3 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) x0 x1 x2 = k0_pay2 (k0_pay1 x0 x1) x2 := by
  frame_out

theorem out_later (c : Dev nD) (t : Fin cfg0.N) (h0 : ¬ t.val % 5 = 0) (x0 : Vec Ideal S1024x2048 .f32) (x1 : Vec Ideal S1x2048 .f32) (x2 : Vec Ideal S2048x1280 .bf16) (s : Vec Ideal S1024x2048 .bf16) :
    out0_B_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) x0 x1 x2 s = k0_pay2 s x2 := by
  frame_out
  exact congrArg (fun z => k0_pay2 z x2) (Memref.IsWhole.read_unread (m := scM0_0) (Memref.isWhole_whole _) s)

theorem scratch_later (c : Dev nD) (t : Fin cfg0.N) (h0 : ¬ t.val % 5 = 0) (x0 : Vec Ideal S1024x2048 .f32) (x1 : Vec Ideal S1x2048 .f32) (x2 : Vec Ideal S2048x1280 .bf16) (s : Vec Ideal S1024x2048 .bf16) :
    sout0_B_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) x0 x1 x2 s = s := rfl

end Cert.Kernel2Ideal.Inproj

end
-- ==== Proof.InprojReference.lean ====
module

public import proofs.«01_k».proof.Proof.Gen.Reference2Ideal.Run
public import proofs.«01_k».proof.Proof.Linear

@[expose] public section

set_option maxRecDepth 16384

noncomputable section

namespace Cert.Reference2Ideal.Inproj

open Cert.Reference2Ideal Cert.Reference2Ideal.Gen Idealize.ShloMosaic Idealize.ShloMosaic.TcCoe Idealize.SL.Sem Cert.Linear

/-- The rows after the root mean square normalisation. -/
def normed (X : FVec Ideal S8x4096x2048 .f32) (G : FVec Ideal S2048 .f32) : FVec Ideal S8x4096x2048 .f32 :=
  mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 G))

/-- Their product with the weights. -/
def product (X : FVec Ideal S8x4096x2048 .f32) (G : FVec Ideal S2048 .f32) (W : FVec Ideal S2048x6400 .f32) : FVec Ideal S8x4096x6400 .f32 :=
  Host.dotGeneral dot_S8x4096x2048_S2048x6400_S8x4096x6400_2_0_01_1_n_n none (normed X G) W

/-- One entry of the normalised rows. -/
theorem normed_at (X : FVec Ideal S8x4096x2048 .f32) (G : FVec Ideal S2048 .f32) (b : Fin 8) (t : Fin 4096) (k : Fin 2048) :
    (normed X G (ix3 b t k) : EReal) = rms (fun j => X (ix3 b t j)) (fun j => G (ix1 j)) k := by
  unfold rms
  pointwise [normed]

/-- One entry of the product. -/
theorem product_at (X : FVec Ideal S8x4096x2048 .f32) (G : FVec Ideal S2048 .f32) (W : FVec Ideal S2048x6400 .f32) (b : Fin 8) (t : Fin 4096) (e : Fin 6400) :
    (product X G W (ix3 b t e) : EReal) = ∑ k : Fin 2048, rms (fun j => X (ix3 b t j)) (fun j => G (ix1 j)) k * W (ix2 k e) := by
  have h : (product X G W (ix3 b t e) : EReal) = ∑ k : Fin 2048, normed X G (ix3 b t k) * W (ix2 k e) := by
    pointwise [product]
  rw [h]
  exact Finset.sum_congr rfl fun k _ => by rw [normed_at]

/-- The reference's result. -/
def result (X : FVec Ideal S8x4096x2048 .f32) (G : FVec Ideal S2048 .f32) (W : FVec Ideal S2048x6400 .f32) : FVec Ideal S32768x6400 .bf16 :=
  truncf .bf16 (shapeCast _ ((concatenate S8x4096x6400 2 [⟨S8x4096x1536, ((extractStridedSlice S8x4096x1536 ![0, 0, 0] (product X G W) slices_S8x4096x6400_S8x4096x1536_0_0_0) : (⟨S8x4096x1536, .f32⟩ : BufTy).Contents (Elt Ideal))⟩, ⟨S8x4096x4608, ((extractStridedSlice S8x4096x4608 ![0, 0, 1792] (product X G W) slices_S8x4096x6400_S8x4096x4608_0_0_1792) : (⟨S8x4096x4608, .f32⟩ : BufTy).Contents (Elt Ideal))⟩, ⟨S8x4096x256, ((extractStridedSlice S8x4096x256 ![0, 0, 1536] (product X G W) slices_S8x4096x6400_S8x4096x256_0_0_1536) : (⟨S8x4096x256, .f32⟩ : BufTy).Contents (Elt Ideal))⟩] concatenates_S8x4096x1536_S8x4096x4608_S8x4096x256_S8x4096x6400_d2 : (⟨S8x4096x6400, .f32⟩ : BufTy).Contents (Elt Ideal))) shapeCasts_S8x4096x6400_S32768x6400) bitsLt_bf16_f32

/-- The rows of the batch of sequences, one after another. -/
def rows (X : FVec Ideal S8x4096x2048 .f32) (r : Fin 32768) (j : Fin 2048) : EReal :=
  X (ix3 (⟨r.val / 4096, by omega⟩ : Fin 8) (⟨r.val % 4096, by omega⟩ : Fin 4096) j)

/-- One entry of the reference's result: the normalised row times the column of the weights that the packing puts there. -/
theorem result_at (X : FVec Ideal S8x4096x2048 .f32) (G : FVec Ideal S2048 .f32) (W : FVec Ideal S2048x6400 .f32) (r : Fin 32768) (e : Fin 6400) :
    (result X G W (ix2 r e) : EReal) = project (rows X) (fun j => G (ix1 j)) (fun k n => W (ix2 k n)) r e := by
  refine Eq.trans ?_ (product_at X G W ⟨r.val / 4096, by omega⟩ ⟨r.val % 4096, by omega⟩ (source e))
  unfold result
  generalize product X G W = P
  pointwise
  have he := e.isLt
  unfold source
  split
  · rfl
  · split
    · rw [dif_pos (show e.val < 6144 by omega)]
      exact congrArg (fun z => P (ix3 (⟨r.val / 4096, by omega⟩ : Fin 8) (⟨r.val % 4096, by omega⟩ : Fin 4096) z)) (Fin.ext (by dsimp only; omega))
    · rw [dif_neg (show ¬ e.val < 6144 by omega)]
      exact congrArg (fun z => P (ix3 (⟨r.val / 4096, by omega⟩ : Fin 8) (⟨r.val % 4096, by omega⟩ : Fin 4096) z)) (Fin.ext (by dsimp only; omega))

end Cert.Reference2Ideal.Inproj

end
-- ==== Proof.InprojValue.lean ====
module

public import proofs.«01_k».proof.Proof.InprojBlock
public import proofs.«01_k».proof.Proof.InprojReference
public import proofs.«01_k».proof.Proof.Gen.Kernel2Ideal.Value
public import proofs.«01_k».proof.Defs
public import Idealize.ShloMosaic.Lib.StableHlo.ReadAt
public import Idealize.ShloMosaic.Lib.Claim

@[expose] public section

set_option maxRecDepth 16384

noncomputable section

namespace Cert.Kernel2Ideal.Inproj

open Cert.Kernel2Ideal Cert.Kernel2Ideal.Gen Idealize.ShloMosaic Idealize.ShloMosaic.TcCoe Idealize.SL.Sem Cert.Linear
open Cert.Reference2Ideal.Inproj (rows)

/-- Which block of its array each window stages at each grid point. -/
theorem idx : ∀ t : Fin cfg0.N, win0_0.index t = ![t.val / 5, 0] ∧ win0_1.index t = ![0, 0] ∧ win0_2.index t = ![0, t.val % 5]
    ∧ win0_3.index t = ![t.val / 5, t.val % 5] ∧ t.val < 160 :=
  (by decide +kernel : ∀ t : Fin grid0.N, _)

variable (m : (ℓ : Loc nD τ sig) → Buf (Elt Ideal) ℓ)

/-- The rows the kernel is given. -/
def X (c : Dev nD) : Fin 32768 → Fin 2048 → EReal := rows (m ((c.tc : Thread nD τ).loc main_arg0))

/-- The gain of the normalisation. -/
def G (c : Dev nD) : Fin 2048 → EReal := fun j => (m ((c.tc : Thread nD τ).loc main_arg1)) (ix1 j)

/-- The weights. -/
def W (c : Dev nD) : Fin 2048 → Fin 6400 → EReal := fun k n => (m ((c.tc : Thread nD τ).loc main_arg2)) (ix2 k n)

/-- The host lays the batch's sequences one after another. -/
theorem host_rows (c : Dev nD) (r : Fin 32768) (j : Fin 2048) : @Eq EReal (V m c main_v0 (ix2 r j)) (X m c r j) := by
  unfold V
  after_reads_at
  unfold X rows
  rfl

/-- The host gives the gain a row of its own. -/
theorem host_gain (c : Dev nD) (j : Fin 2048) : @Eq EReal (V m c main_v6 (ix2 0 j)) (G m c j) := by
  unfold V
  after_reads_at
  unfold G
  rfl

/-- The host packs the weights' columns. -/
theorem host_weights (c : Dev nD) (k : Fin 2048) (e : Fin 6400) : @Eq EReal (V m c main_v5 (ix2 k e)) (W m c k (source e)) := by
  unfold V
  after_reads_at
  have he := e.isLt
  unfold W source
  split
  · after_reads_at
  · split
    · rw [dif_pos (show e.val < 6144 by omega)]
      after_reads_at
      exact congrArg (fun z => (m ((c.tc : Thread nD τ).loc main_arg2)) (ix2 k z)) (Fin.ext (show _ = _ by first | omega | (dsimp only; omega)))
    · rw [dif_neg (show ¬ e.val < 6144 by omega)]
      after_reads_at
      exact congrArg (fun z => (m ((c.tc : Thread nD τ).loc main_arg2)) (ix2 k z)) (Fin.ext (show _ = _ by first | omega | (dsimp only; omega)))

/-- Window 0 stages a tile of rows. -/
theorem staged0 (c : Dev nD) (t : Fin cfg0.N) (r : Fin 1024) (j : Fin 2048) (R : Fin 32768) (hR : R.val = t.val / 5 * 1024 + r.val) :
    @Eq EReal (iblk m c 0 t (ix2 r j)) (X m c R j) := by
  have ht := (idx t).2.2.2.2
  refine Eq.trans ?_ (host_rows m c R j)
  blk_ext [iblk, idx t]

/-- Window 1 stages the gain. -/
theorem staged1 (c : Dev nD) (t : Fin cfg0.N) (j : Fin 2048) :
    @Eq EReal (iblk m c 1 t (ix2 0 j)) (G m c j) := by
  have ht := (idx t).2.2.2.2
  refine Eq.trans ?_ (host_gain m c j)
  blk_ext [iblk, idx t]

/-- Window 2 stages a tile of packed columns of the weights. -/
theorem staged2 (c : Dev nD) (t : Fin cfg0.N) (k : Fin 2048) (e : Fin 1280) (E : Fin 6400) (hE : E.val = t.val % 5 * 1280 + e.val) :
    @Eq EReal (iblk m c 2 t (ix2 k e)) (W m c k (source E)) := by
  have ht := (idx t).2.2.2.2
  refine Eq.trans ?_ (host_weights m c k E)
  blk_ext [iblk, idx t]

/-- The scratch holds the normalised tile after every grid point of the tile. -/
theorem scratch_at (c : Dev nD) : ∀ (n : ℕ) (h : n < cfg0.N) (r : Fin 1024) (k : Fin 2048) (R : Fin 32768), R.val = n / 5 * 1024 + r.val →
    @Eq EReal ((outsAt0 m c n h).2 (ix2 r k)) (rms (X m c R) (G m c) k) := by
  intro n
  induction n with
  | zero =>
    intro h r k R hR
    have e := outsAt0_A m c ⟨0, h⟩ rfl
    rw [congrArg Prod.snd e]
    dsimp only
    rw [scratch_first c _ rfl, norm_at]
    congr 1
    · funext j; exact staged0 m c _ r j R hR
    · funext j; exact staged1 m c _ j
  | succ n ih =>
    intro h r k R hR
    by_cases h0 : (n + 1) % 5 = 0
    · have e := outsAt0_A m c ⟨n + 1, h⟩ h0
      rw [congrArg Prod.snd e]
      dsimp only
      rw [scratch_first c _ h0, norm_at]
      congr 1
      · funext j; exact staged0 m c _ r j R hR
      · funext j; exact staged1 m c _ j
    · have e := outsAt0_B m c ⟨n + 1, h⟩ h0
      rw [congrArg Prod.snd e]
      dsimp only
      rw [scratch_later c _ h0]
      exact ih _ r k R (by omega)

/-- The block each grid point leaves. -/
theorem block_at (c : Dev nD) (t : Fin cfg0.N) (r : Fin 1024) (e : Fin 1280) (R : Fin 32768) (E : Fin 6400) (hR : R.val = t.val / 5 * 1024 + r.val) (hE : E.val = t.val % 5 * 1280 + e.val) :
    @Eq EReal ((outsAt0 m c t.val t.isLt).1 (ix2 r e)) (project (X m c) (G m c) (W m c) R E) := by
  unfold project
  by_cases h0 : t.val % 5 = 0
  · rw [congrArg Prod.fst (outsAt0_A m c t h0)]
    dsimp only
    rw [out_first c t h0, product_at]
    refine Finset.sum_congr rfl fun k _ => ?_
    rw [norm_at]
    refine congrArg₂ _ ?_ (staged2 m c t k e E hE)
    congr 1
    · funext j; exact staged0 m c _ r j R hR
    · funext j; exact staged1 m c _ j
  · rw [congrArg Prod.fst (outsAt0_B m c t h0)]
    dsimp only
    rw [out_later c t h0, product_at]
    refine Finset.sum_congr rfl fun k _ => ?_
    exact congrArg₂ _ (scratch_at m c _ _ r k R (by omega)) (staged2 m c t k e E hE)

/-- The array the kernel leaves is the projection. -/
theorem final (c : Dev nD) :
    (dats m 0 c).arrAt 3 cfg0.N = (fun i => project (X m c) (G m c) (W m c) (i 0) (i 1) : FVec Ideal S32768x6400 .bf16) := by
  refine (dats m 0 c).arrAt_eq_of_covers 3 _ (by decide +kernel) fun t _ y => ?_
  have e0 : (((win0_3.blk t).view.emb y 0 : Fin _) : ℕ) = t.val / 5 * 1024 + (y 0).val := by blk_simp [idx t]
  have e1 : (((win0_3.blk t).view.emb y 1 : Fin _) : ℕ) = t.val % 5 * 1280 + (y 1).val := by blk_simp [idx t]
  obtain ⟨a, e, rfl⟩ : ∃ (a : Fin 1024) (e : Fin 1280), y = ix2 a e := ⟨y 0, y 1, by funext k; fin_cases k <;> rfl⟩
  have h := block_at m c t a e _ _ e0 e1
  blk_simp
  rw [after0_3]
  exact h

end Cert.Kernel2Ideal.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.ExpertsTables
public import proofs.«01_k».proof.Proof.ExpertsIdealValue
public import proofs.«01_k».proof.Proof.ExpertsReference
public import proofs.«01_k».proof.Proof.OutprojValue
public import proofs.«01_k».proof.Proof.OutprojReference
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_placed
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.BandValue
public import proofs.«01_k».proof.Proof.InprojValue
public import Idealize.ShloMosaic.Adequacy
public import Idealize.ShloMosaic.Init

@[expose] public section

noncomputable section

namespace Cert.Proof

open Idealize.ShloMosaic Idealize.SL.Sem Cert.Kernel

/-- The two results are one array: the kernel's attention and the reference's. -/
theorem attention_eq : Cert.algebraic_KernelIdeal_ReferenceIdeal_pre_finite := by
  intro m g m' g' hpre hargs
  refine ⟨fun c => Cert.KernelIdeal.Band.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run _ _ _).mono (fun r h c => ?_) (Cert.KernelIdeal.Value.run_blocks m g)
    exact ⟨(h c).1.trans (Cert.KernelIdeal.Band.final m hpre c), (h c).2⟩
  · refine (θ_run _ _ _).mono (fun r h c => ?_) (Cert.ReferenceIdeal.Value.run m' g')
    refine ⟨(h c).1.trans ?_, (h c).2⟩
    funext i
    obtain ⟨a, e, rfl⟩ : ∃ (a : Fin 32768) (e : Fin 512), i = ix2 a e := ⟨i 0, i 1, by funext k; fin_cases k <;> rfl⟩
    refine (Cert.ReferenceIdeal.Band.result_at m' c a e).trans ?_
    rw [(hargs c).1, (hargs c).2]
    rfl

/-- The two results are one array: the kernel's packed projection and the reference's. -/
theorem projection_eq : Cert.algebraic_Kernel2Ideal_Reference2Ideal := by
  intro m g m' g' _ hargs
  refine ⟨fun c i => Cert.Linear.project (Cert.Kernel2Ideal.Inproj.X m c) (Cert.Kernel2Ideal.Inproj.G m c) (Cert.Kernel2Ideal.Inproj.W m c) (i 0) (i 1), ?_, ?_⟩
  · refine (θ_run _ _ _).mono (fun r h c => ?_) (Cert.Kernel2Ideal.Value.run_blocks m g)
    exact ⟨(h c).1.trans (Cert.Kernel2Ideal.Inproj.final m c), (h c).2⟩
  · refine (θ_run _ _ _).mono (fun r h c => ?_) (Cert.Reference2Ideal.Value.run m' g')
    refine ⟨(h c).1.trans ?_, (h c).2⟩
    rw [(hargs c).1, (hargs c).2.1, (hargs c).2.2]
    funext i
    obtain ⟨a, e, rfl⟩ : ∃ (a : Fin 32768) (e : Fin 6400), i = ix2 a e := ⟨i 0, i 1, by funext k; fin_cases k <;> rfl⟩
    exact Cert.Reference2Ideal.Inproj.result_at _ _ _ a e

/-- Two words compared as signed numbers, read back. -/
theorem le_of_sge (x y : BitVec 32) (h : IntOp.cmpi .sge x y = 1#1) : y.toInt ≤ x.toInt := by
  have h' : BitVec.ofBool (y.sle x) = 1#1 := h
  cases hb : y.sle x
  · rw [hb] at h'; exact absurd h' (by decide)
  · exact BitVec.sle_iff_toInt_le.mp hb
theorem lt_of_slt (x y : BitVec 32) (h : IntOp.cmpi .slt x y = 1#1) : x.toInt < y.toInt := by
  have h' : BitVec.ofBool (x.slt y) = 1#1 := h
  cases hb : x.slt y
  · rw [hb] at h'; exact absurd h' (by decide)
  · exact BitVec.slt_iff_toInt_lt.mp hb

/-- The precondition `placed`, as bounds on the words of the two tables. -/
theorem placed_bits (m : (ℓ : Loc Cert.Kernel3.nD Cert.Kernel3.τ Cert.Kernel3.sig) → Buf (Elt Bits) ℓ) (h : Cert.Pre_Kernel3 m) : Cert.Kernel3.Gen.Placed m := by
  obtain ⟨h1, h2, h3⟩ := h 0
  refine ⟨fun j => ⟨?_, ?_⟩, ?_⟩
  · exact le_of_sge (Cert.Kernel3.Gen.te m j) 0#32 (congrFun h1 (ix1 j))
  · exact lt_of_slt (Cert.Kernel3.Gen.te m j) 32#32 (congrFun h2 (ix1 j))
  · exact le_of_sge (Cert.Kernel3.Gen.nl m) 1#32 (congrFun h3 (ix1 0))
theorem placed_ideal (m : (ℓ : Loc Cert.Kernel3Ideal.nD Cert.Kernel3Ideal.τ Cert.Kernel3Ideal.sig) → Buf (Elt Ideal) ℓ) (h : Cert.Pre_Kernel3Ideal m) : Cert.Kernel3Ideal.Gen.Placed m := by
  obtain ⟨h1, h2, h3⟩ := h 0
  refine ⟨fun j => ⟨?_, ?_⟩, ?_⟩
  · exact le_of_sge (Cert.Kernel3Ideal.Gen.te m j) 0#32 (congrFun h1 (ix1 j))
  · exact lt_of_slt (Cert.Kernel3Ideal.Gen.te m j) 32#32 (congrFun h2 (ix1 j))
  · exact le_of_sge (Cert.Kernel3Ideal.Gen.nl m) 1#32 (congrFun h3 (ix1 0))

/-- The experts' kernel and its reference end with equal results: entry `(r, d)` is row `r` through the expert of its tile if the tile is live, else zero. -/
theorem experts_eq : Cert.algebraic_Kernel3Ideal_Reference3Ideal := by
  intro m g m' g' hpre hargs
  have h := placed_ideal m hpre
  have hO := Cert.Kernel3Ideal.Gen.ok_of_placed m h
  refine ⟨fun c i => Cert.Kernel3Ideal.Experts.answer m h c (i 0) (i 1), ?_, ?_⟩
  · refine (θ_run _ _ _).mono (fun r hr c => ⟨?_, hr.2 c⟩) (θ_run_and (Cert.Kernel3Ideal.Gen.run_main m g hO) (Cert.Kernel3Ideal.Gen.unchanged m g hO))
    exact ((hr.1 c).1 5).trans (Cert.Kernel3Ideal.Experts.final m h hO c)
  · refine (θ_run _ _ _).mono (fun r hr c => ?_) (Cert.Reference3Ideal.Value.run m' g')
    refine ⟨(hr c).1.trans ?_, (hr c).2⟩
    obtain ⟨a0, a1, a2, a3, a4, a5, a6⟩ := hargs c
    refine (Cert.Reference3Ideal.Experts.res_eq m' c).trans ?_
    rw [a0, a1, a2, a3, a4, a5, a6]
    obtain rfl : c = 0 := Subsingleton.elim _ _
    funext i
    obtain ⟨a, d, rfl⟩ : ∃ (a : Fin 81920) (d : Fin 2048), i = ix2 a d := ⟨i 0, i 1, by funext k; fin_cases k <;> rfl⟩
    exact Cert.Reference3Ideal.Experts.result_at _ _ _ _ _ _ _ a d (Cert.Kernel3Ideal.Gen.expert m h ⟨a.val / 512, by omega⟩) rfl h.2

/-- The output projection's kernel and its reference end with equal results: the residual rows plus the projection of the four mixers' outputs. -/
theorem outproj_eq : Cert.algebraic_Kernel4Ideal_Reference4Ideal := by
  intro m g m' g' _ hargs
  refine ⟨fun c i => Cert.Reference4Ideal.Outproj.residualSum (Cert.Kernel4Ideal.Outproj.X m c) (fun r j => (m ((c.tc : Thread Cert.Kernel4Ideal.nD Cert.Kernel4Ideal.τ).loc Cert.Kernel4Ideal.main_arg0)) (ix2 r j)) (fun r j => (m ((c.tc : Thread Cert.Kernel4Ideal.nD Cert.Kernel4Ideal.τ).loc Cert.Kernel4Ideal.main_arg1)) (ix2 r j)) (fun r j => (m ((c.tc : Thread Cert.Kernel4Ideal.nD Cert.Kernel4Ideal.τ).loc Cert.Kernel4Ideal.main_arg2)) (ix2 r j)) (Cert.Kernel4Ideal.Outproj.P m c) (Cert.Kernel4Ideal.Outproj.C m c) (Cert.Kernel4Ideal.Outproj.W m c) (i 0) (i 1), ?_, ?_⟩
  · refine (θ_run _ _ _).mono (fun r h c => ?_) (Cert.Kernel4Ideal.Value.run_blocks m g)
    exact ⟨(h c).1.trans (Cert.Kernel4Ideal.Outproj.final m c), (h c).2.2⟩
  · refine (θ_run _ _ _).mono (fun r h c => ?_) (Cert.Reference4Ideal.Value.run m' g')
    refine ⟨(h c).1.trans ?_, (h c).2⟩
    obtain ⟨a0, a1, a2, a3, a4, a5, a6, _⟩ := hargs c
    refine (Cert.Reference4Ideal.Outproj.res_eq m' c).trans ?_
    rw [a0, a1, a2, a3, a4, a5, a6]
    funext i
    obtain ⟨a, d, rfl⟩ : ∃ (a : Fin 32768) (d : Fin 2048), i = ix2 a d := ⟨i 0, i 1, by funext k; fin_cases k <;> rfl⟩
    exact Cert.Reference4Ideal.Outproj.result_at _ _ _ _ _ _ _ a d

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_placed.Gen.facts, by
  refine ⟨?_, ?_, ?_, ?_, ?_, ?_, ?_, ?_, ?_, ?_, ?_, ?_, ?_, ?_, ?_, ?_, attention_eq, trivial, projection_eq, trivial, experts_eq, trivial, outproj_eq⟩
  · intro m g _
    exact Cert.Kernel.Gen.frame m g
  · intro m g _
    exact Cert.KernelIdeal.Gen.frame m g
  · intro m g _
    exact Cert.KernelIdeal.Gen.frame m g
  · intro m g _
    exact (θ_run _ _ _).mono (fun r h => ⟨fun c => (h c).2, funext fun s => nomatch s⟩) (Cert.ReferenceIdeal.Value.run m g)
  · intro m g _
    exact (θ_run _ _ _).mono (fun r h => ⟨fun c => (h c).2, funext fun s => nomatch s⟩) (Cert.ReferenceIdeal.Value.run m g)
  · intro m g _
    exact Cert.Kernel2.Gen.frame m g
  · intro m g _
    exact Cert.Kernel2Ideal.Gen.frame m g
  · intro m g _
    exact (θ_run _ _ _).mono (fun r h => ⟨fun c => (h c).2, funext fun s => nomatch s⟩) (Cert.Reference2Ideal.Value.run m g)
  · intro m g h
    exact Cert.Kernel3.Gen.frame m g (Cert.Kernel3.Gen.ok_of_placed m (placed_bits m h))
  · intro m g h
    exact Cert.Kernel3Ideal.Gen.frame m g (Cert.Kernel3Ideal.Gen.ok_of_placed m (placed_ideal m h))
  · intro m g _
    exact (θ_run _ _ _).mono (fun r h => ⟨fun c => (h c).2, funext fun s => nomatch s⟩) (Cert.Reference3Ideal.Value.run m g)
  · intro m g _
    exact (θ_run _ _ _).mono (fun r h => ⟨fun c => (h c).2, funext fun s => nomatch s⟩) (Cert.Reference3Ideal.Value.run m g)
  · intro m g _
    exact Cert.Kernel4.Gen.frame m g
  · intro m g _
    exact Cert.Kernel4Ideal.Gen.frame m g
  · intro m g _
    exact (θ_run _ _ _).mono (fun r h => ⟨fun c => (h c).2, funext fun s => nomatch s⟩) (Cert.Reference4Ideal.Value.run m g)
  · exact IdealRules.named_const.statement Cert.KernelIdeal.κ "mask" .f32 0xF149F2CA#32 ⊥ rfl⟩

end Cert.Proof

end
